-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 1024]⟩ ⟨3, ![1, 2048, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 1024]⟩ ⟨3, ![1, 2048, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v66) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S1024x1024 : Shape := ⟨2, ![1024, 1024]⟩
abbrev S4x512x1024 : Shape := ⟨3, ![4, 512, 1024]⟩
abbrev S2048x1024 : Shape := ⟨2, ![2048, 1024]⟩
abbrev S3 : Shape := ⟨1, ![3]⟩
abbrev S_ : Shape := ⟨0, ![]⟩
abbrev S512x1024 : Shape := ⟨2, ![512, 1024]⟩
abbrev S1 : Shape := ⟨1, ![1]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S128x1024 : Shape := ⟨2, ![128, 1024]⟩

abbrev nBuf : Space → Nat
  | .hbm => 6
  | .vmem => 11
  | .smem => 0
  | _ => 0

abbrev bufTy : (tb : Table) → Fin (tcTables nBuf tb) → BufTy
  | .hbm, ⟨0, _⟩ => ⟨S1x512x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1x512x1024, .f32⟩
  | .local _ .vmem, ⟨0, _⟩ => ⟨S1x512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x512x1024, .f32⟩
  | .local _ .vmem, ⟨6, _⟩ => ⟨S4x512x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S4x512x1024, .bf16⟩
  | _, _ => ⟨S1x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_19 : BitVec 32 := 1#32
  let v18 : BitVec 32 := Scalar.muli v7 c1_i32_19
  let v19 : BitVec 32 := Scalar.addi c0_i32_20 v18
  v19.toNat
def k0_dev4 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_65 : BitVec 32 := 1#32
  let v65 : BitVec 32 := Scalar.muli v7 c1_i32_65
  let v66 : BitVec 32 := Scalar.addi c0_i32_66 v65
  v66.toNat
def k0_dev5 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_109 : BitVec 32 := 1#32
  let v112 : BitVec 32 := Scalar.muli v7 c1_i32_109
  let v113 : BitVec 32 := Scalar.addi c0_i32_110 v112
  v113.toNat
def k0_dev6 (d0 : Dev nD) : Nat :=
  let c0_i32_281 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_280 : BitVec 32 := 1#32
  let v363 : BitVec 32 := Scalar.muli v7 c1_i32_280
  let v364 : BitVec 32 := Scalar.addi c0_i32_281 v363
  v364.toNat
def k0_dev7 (d0 : Dev nD) : Nat :=
  let c0_i32_429 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_428 : BitVec 32 := 1#32
  let v572 : BitVec 32 := Scalar.muli v7 c1_i32_428
  let v573 : BitVec 32 := Scalar.addi c0_i32_429 v572
  v573.toNat
def k0_dev8 (d0 : Dev nD) : Nat :=
  let c0_i32_577 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_576 : BitVec 32 := 1#32
  let v781 : BitVec 32 := Scalar.muli v7 c1_i32_576
  let v782 : BitVec 32 := Scalar.addi c0_i32_577 v781
  v782.toNat
abbrev stage0_0 : Fin 1 → Memref sig .tc .vmem S1x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x2048x1024 : Shape := ⟨3, ![1, 2048, 1024]⟩
abbrev S1024x4096 : Shape := ⟨2, ![1024, 4096]⟩
abbrev S4096x1024 : Shape := ⟨2, ![4096, 1024]⟩
abbrev S1x2048x4096 : Shape := ⟨3, ![1, 2048, 4096]⟩
abbrev S1x2048x32x128 : Shape := ⟨4, ![1, 2048, 32, 128]⟩
abbrev S_ : Shape := ⟨0, ![]⟩
abbrev S1x32x2048x1 : Shape := ⟨4, ![1, 32, 2048, 1]⟩
abbrev S1x1024x32x128 : Shape := ⟨4, ![1, 1024, 32, 128]⟩
abbrev S1x32x2048x1024 : Shape := ⟨4, ![1, 32, 2048, 1024]⟩
abbrev S1x32x2048 : Shape := ⟨3, ![1, 32, 2048]⟩
abbrev S1x2048x32x1 : Shape := ⟨4, ![1, 2048, 32, 1]⟩
abbrev S1x32x128x2048 : Shape := ⟨4, ![1, 32, 128, 2048]⟩

abbrev nBuf : Space → Nat
  | .hbm => 81
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1024x4096, .bf16⟩
  | .hbm, ⟨2, _⟩ => ⟨S1024x4096, .bf16⟩
  | .hbm, ⟨3, _⟩ => ⟨S1024x4096, .bf16⟩
  | .hbm, ⟨4, _⟩ => ⟨S4096x1024, .bf16⟩
  | .hbm, ⟨5, _⟩ => ⟨S1x2048x4096, .f32⟩
  | .hbm, ⟨6, _⟩ => ⟨S1x2048x4096, .bf16⟩
  | .hbm, ⟨7, _⟩ => ⟨S1x2048x32x128, .bf16⟩
  | .hbm, ⟨8, _⟩ => ⟨S1x2048x4096, .f32⟩
  | .hbm, ⟨9, _⟩ => ⟨S1x2048x4096, .bf16⟩
  | .hbm, ⟨10, _⟩ => ⟨S1x2048x32x128, .bf16⟩
  | .hbm, ⟨11, _⟩ => ⟨S1x2048x4096, .f32⟩
  | .hbm, ⟨12, _⟩ => ⟨S1x2048x4096, .bf16⟩
  | .hbm, ⟨13, _⟩ => ⟨S1x2048x32x128, .bf16⟩
  | .hbm, ⟨14, _⟩ => ⟨S_, .f32⟩
  | .hbm, ⟨15, _⟩ => ⟨S1x2048x32x128, .f32⟩
  | .hbm, ⟨16, _⟩ => ⟨S_, .f32⟩
  | .hbm, ⟨17, _⟩ => ⟨S1x32x2048x1, .f32⟩
  | .hbm, ⟨18, _⟩ => ⟨S_, .f32⟩
  | .hbm, ⟨19, _⟩ => ⟨S1x32x2048x1, .f32⟩
  | .hbm, ⟨20, _⟩ => ⟨S1x1024x32x128, .bf16⟩
  | .hbm, ⟨21, _⟩ => ⟨S1x1024x32x128, .bf16⟩
  | .hbm, ⟨22, _⟩ => ⟨S1x32x2048x1024, .f32⟩
  | .hbm, ⟨23, _⟩ => ⟨S1x32x2048x1024, .bf16⟩
  | .hbm, ⟨24, _⟩ => ⟨S1x32x2048x1024, .f32⟩
  | .hbm, ⟨25, _⟩ => ⟨S_, .f32⟩
  | .hbm, ⟨26, _⟩ => ⟨S1x32x2048x1024, .f32⟩
  | .hbm, ⟨27, _⟩ => ⟨S1x32x2048x1024, .f32⟩
  | .hbm, ⟨28, _⟩ => ⟨S_, .f32⟩
  | .hbm, ⟨29, _⟩ => ⟨S1x32x2048, .f32⟩
  | .hbm, ⟨30, _⟩ => ⟨S1x32x2048x1, .f32⟩
  | .hbm, ⟨31, _⟩ => ⟨S1x32x2048x1, .f32⟩
  | .hbm, ⟨32, _⟩ => ⟨S1x32x2048x1, .f32⟩
  | .hbm, ⟨33, _⟩ => ⟨S1x32x2048x1, .f32⟩
  | .hbm, ⟨34, _⟩ => ⟨S1x32x2048x1024, .f32⟩
  | .hbm, ⟨35, _⟩ => ⟨S1x32x2048x1024, .f32⟩
  | .hbm, ⟨36, _⟩ => ⟨S1x32x2048x1024, .f32⟩
  | .hbm, ⟨37, _⟩ => ⟨S1x32x2048x1, .f32⟩
  | .hbm, ⟨38, _⟩ => ⟨S_, .f32⟩
  | .hbm, ⟨39, _⟩ => ⟨S1x32x2048, .f32⟩
  | .hbm, ⟨40, _⟩ => ⟨S1x32x2048x1, .f32⟩
  | .hbm, ⟨41, _⟩ => ⟨S1x32x2048x1, .f32⟩
  | .hbm, ⟨42, _⟩ => ⟨S1x2048x32x1, .f32⟩
  | .hbm, ⟨43, _⟩ => ⟨S1x2048x32x128, .f32⟩
  | .hbm, ⟨44, _⟩ => ⟨S1x2048x32x128, .f32⟩
  | .hbm, ⟨45, _⟩ => ⟨S1x32x128x2048, .f32⟩
  | .hbm, ⟨46, _⟩ => ⟨S1x2048x32x128, .f32⟩
  | .hbm, ⟨47, _⟩ => ⟨S1x2048x32x128, .f32⟩
  | .hbm, ⟨48, _⟩ => ⟨S1x1024x32x128, .bf16⟩
  | .hbm, ⟨49, _⟩ => ⟨S1x1024x32x128, .bf16⟩
  | .hbm, ⟨50, _⟩ => ⟨S1x32x2048x1024, .f32⟩
  | .hbm, ⟨51, _⟩ => ⟨S1x32x2048x1024, .bf16⟩
  | .hbm, ⟨52, _⟩ => ⟨S1x32x2048x1024, .f32⟩
  | .hbm, ⟨53, _⟩ => ⟨S_, .f32⟩
  | .hbm, ⟨54, _⟩ => ⟨S1x32x2048x1024, .f32⟩
  | .hbm, ⟨55, _⟩ => ⟨S1x32x2048x1024, .f32⟩
  | .hbm, ⟨56, _⟩ => ⟨S_, .f32⟩
  | .hbm, ⟨57, _⟩ => ⟨S1x32x2048, .f32⟩
  | .hbm, ⟨58, _⟩ => ⟨S1x32x2048x1, .f32⟩
  | .hbm, ⟨59, _⟩ => ⟨S1x32x2048x1, .f32⟩
  | .hbm, ⟨60, _⟩ => ⟨S1x32x2048x1, .f32⟩
  | .hbm, ⟨61, _⟩ => ⟨S1x32x2048x1, .f32⟩
  | .hbm, ⟨62, _⟩ => ⟨S1x32x2048x1024, .f32⟩
  | .hbm, ⟨63, _⟩ => ⟨S1x32x2048x1024, .f32⟩
  | .hbm, ⟨64, _⟩ => ⟨S1x32x2048x1024, .f32⟩
  | .hbm, ⟨65, _⟩ => ⟨S1x32x2048x1, .f32⟩
  | .hbm, ⟨66, _⟩ => ⟨S_, .f32⟩
  | .hbm, ⟨67, _⟩ => ⟨S1x32x2048, .f32⟩
  | .hbm, ⟨68, _⟩ => ⟨S1x32x2048x1, .f32⟩
  | .hbm, ⟨69, _⟩ => ⟨S1x32x2048x1, .f32⟩
  | .hbm, ⟨70, _⟩ => ⟨S1x2048x32x1, .f32⟩
  | .hbm, ⟨71, _⟩ => ⟨S1x2048x32x128, .f32⟩
  | .hbm, ⟨72, _⟩ => ⟨S1x2048x32x128, .f32⟩
  | .hbm, ⟨73, _⟩ => ⟨S1x32x128x2048, .f32⟩
  | .hbm, ⟨74, _⟩ => ⟨S1x2048x32x128, .f32⟩
  | .hbm, ⟨75, _⟩ => ⟨S1x2048x32x128, .f32⟩
  | .hbm, ⟨76, _⟩ => ⟨S1x2048x32x1, .f32⟩
  | .hbm, ⟨77, _⟩ => ⟨S1x2048x32x128, .f32⟩
  | .hbm, ⟨78, _⟩ => ⟨S1x2048x32x128, .f32⟩
  | .hbm, ⟨79, _⟩ => ⟨S1x2048x4096, .f32⟩
  | .hbm, ⟨80, _⟩ => ⟨S1x2048x1024, .f32⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩

abbrev nD : Nat := 1
abbrev τ : Topo := Topo.v7x

variable {F : FTy → Type} [FloatOps F]
-- ==== Proof.KernelIdeal.Slots.lean ====
/- The four-slot scratch buffers. A slot is one 1x512x1024 slab of a 4x512x1024 buffer; it is held by `owns` at a share,
   with its contents. Here: a slot is loaded, stored, halved, rejoined, sent and received, and a whole buffer is its
   four slots. -/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ring's ghost state: rounds over the program's semaphores, the duties of a round named by `Bool`. -/
abbrev UB : Type := URounds (GSem nD τ sig) Bool
/-- The pipeline's ghost state beside the ring's. -/
abbrev UU : Type := UR sig nD τ × UB

local notation "𝕄" => MT nD τ sig Unit (Elt F) ℕ UU ℕ

/-- No loop variants are needed. -/
abbrev 𝒱₀ : Variants := Variants.none

/-- A scratch buffer of four slots. -/
abbrev Scr : Type := Memref sig .tc .vmem S4x512x1024 .bf16
/-- The contents of a slot. -/
abbrev Blk (F : FTy → Type) [FloatOps F] : Type := Vec F S1x512x1024 .bf16

/-- A slot lies in its buffer. -/
theorem slot_inb (j : Fin 4) : ∀ a, (![j.val, 0, 0] : Fin 3 → Nat) a + S1x512x1024.size a ≤ S4x512x1024.size a := by
  revert j; decide

/-- Slot `j`'s rectangle in the buffer. -/
abbrev slotR (j : Fin 4) : Rect S4x512x1024 := Rect.unit (s := S4x512x1024) ![j.val, 0, 0] S1x512x1024.size (slot_inb j)
/-- Slot `j` as a memref with its leading unit axis, -/
abbrev slot (M : Scr) (j : Fin 4) : Memref sig .tc .vmem S1x512x1024 .bf16 := M.slice (slotR j) (fun _ => rfl)
/-- and as the transfers name it, without that axis. -/
abbrev slab (M : Scr) (j : Fin 4) : Memref sig .tc .vmem S512x1024 .bf16 :=
  (slot M j).squeeze S512x1024 squeezes_S1x512x1024_S512x1024

/-- Device `c` holds slot `j` of `M` at share `q`, with contents `X`. -/
def held (M : Scr) (j : Fin 4) (c : Dev nD) (q : PosShare TreeShare) (X : Blk F) : sProp 𝕄 := owns (c : Thread nD τ) (slot M j) q X

omit [FloatOps F] in
/-- A slot without its unit axis has the same places, -/
theorem slab_set (M : Scr) (j : Fin 4) : (slab M j).view.set = (slot M j).view.set := Memref.set_view_squeeze _ _

/-- and reads as the slot recast. -/
theorem slab_read (M : Scr) (j : Fin 4) (f : M.view.ty.Contents (Elt F)) :
    (slab M j).view.read (Elt F) f = shapeCast S512x1024 ((slot M j).view.read (Elt F) f) shapeCasts_S1x512x1024_S512x1024 := rfl

/-- Two slot contents with one reading through the slab are equal. -/
theorem slab_cast_inj {X Y : Blk F} (h : shapeCast S512x1024 X shapeCasts_S1x512x1024_S512x1024 = shapeCast S512x1024 Y shapeCasts_S1x512x1024_S512x1024) :
    X = Y := by
  have e := congrArg (fun Z => shapeCast S1x512x1024 Z shapeCasts_S512x1024_S1x512x1024) h
  rwa [shapeCast_shapeCast X shapeCasts_S1x512x1024_S512x1024, shapeCast_shapeCast Y shapeCasts_S1x512x1024_S512x1024] at e

/-- What a slab's landing leaves in the slot: the source slot's contents. -/
theorem slab_land (M M' : Scr) (i j : Fin 4) (f : M'.view.ty.Contents (Elt F)) (g : M.view.ty.Contents (Elt F)) :
    (slot M' j).view.read (Elt F) ((slab M' j).view.write (Elt F) f ((slab M i).view.read (Elt F) g) Finset.univ) = (slot M i).view.read (Elt F) g := by
  apply slab_cast_inj
  rw [← slab_read, ← slab_read]
  exact View.read_write_univ _ _

instance held_storable (M : Scr) (j : Fin 4) (c : Dev nD) (q : PosShare TreeShare) (X : Blk F) :
    BI.Storable (upEmb : UEmb _ 𝕄) (held M j c q X) := by unfold held; infer_instance

/-- A slot held in full is two halves of it. -/
theorem held_halve (M : Scr) (j : Fin 4) (c : Dev nD) (X : Blk F) :
    (held M j c fullShare X : sProp 𝕄) ⊢ iprop(held M j c fullShare.left X ∗ held M j c fullShare.right X) := by
  unfold held owns
  iintro ⟨%f, %hf, H⟩
  ihave H' := (pointsTo_share (PosShare.mem_left_op_right fullShare)).1 $$ H
  icases H' with ⟨Hl, Hr⟩
  isplitl [Hl]
  · iexists f; isplitr; · (ipureintro; exact hf)
    iexact Hl
  · iexists f; isplitr; · (ipureintro; exact hf)
    iexact Hr

/-- Two views' readings equal, the contents agree on the view's elements. -/
theorem eq_on_of_read {κ : Kind} {sp : Space} {s : Shape} {e : EltTy} (v : View sig κ sp s e) {f g : v.ty.Contents (Elt F)}
    (h : v.read (Elt F) f = v.read (Elt F) g) : ∀ i ∈ v.set, f i = g i := by
  intro i hi
  obtain ⟨x, -, rfl⟩ := Finset.mem_map.mp hi
  have := congrFun h x
  rw [View.read_apply, View.read_apply] at this
  exact cast_inj _ |>.mp this

/-- The two halves rejoin. -/
theorem held_join (M : Scr) (j : Fin 4) (c : Dev nD) (X : Blk F) :
    iprop(held M j c fullShare.left X ∗ held M j c fullShare.right X) ⊢ (held M j c fullShare X : sProp 𝕄) := by
  unfold held owns
  iintro ⟨⟨%f, %hf, Hl⟩, ⟨%g, %hg, Hr⟩⟩
  ihave Hr' := (Entails.of_eq (pointsTo_congr (eq_on_of_read (slot M j).view (hg.trans hf.symm)))) $$ Hr
  iexists f
  isplitr; · (ipureintro; exact hf)
  iapply (pointsTo_share (PosShare.mem_left_op_right fullShare)).2
  isplitl [Hl] <;> iassumption

/-- A load of a held slot returns its contents. -/
theorem wp_load_slot (M : Scr) (j : Fin 4) (c : Dev nD) (q : PosShare TreeShare) (X : Blk F) {α : Type} {Q : α → sProp 𝕄}
    {hl : M.view.LoadsAt (slotR j).toLoadRect} {k : Blk F → Prog (TpuEff nD τ sig (Elt F) Λ₀ .tc) α} :
    (held M j c q X : sProp 𝕄) ⊢ iprop((held M j c q X -∗ wp frame (wpE (defs₀ (F := F)) 𝒱₀ (c : Thread nD τ) none) Set.univ (k X) Q)
      -∗ wp frame (wpE (defs₀ (F := F)) 𝒱₀ (c : Thread nD τ) none) Set.univ (.op (.load M (slotR j).toLoadRect hl) k) Q) := by
  unfold held owns
  iintro ⟨%f, %hf, H⟩ Hk
  iapply (wp_load 𝒱₀ (c : Thread nD τ) none Set.univ (m := M) (S := (slot M j).view.set) (View.set_slice _ _).symm.subset) $$ H
  iintro H
  rw [show M.view.readAt (Elt F) (slotR j).toLoadRect f = X from hf]
  iapply Hk
  iexists f; isplitr; · (ipureintro; exact hf)
  iexact H

/-- A store over the whole of a held slot leaves what was stored. -/
theorem wp_store_slot (M : Scr) (j : Fin 4) (c : Dev nD) (X w : Blk F) {α : Type} {Q : α → sProp 𝕄}
    {hs} {hm} {k : PUnit → Prog (TpuEff nD τ sig (Elt F) Λ₀ .tc) α} :
    (held M j c fullShare X : sProp 𝕄) ⊢ iprop((held M j c fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store M (slotR j) w Finset.univ hs hm) k) Q) := by
  unfold held owns
  iintro ⟨%f, %hf, H⟩ Hk
  iapply (wp_store 𝒱₀ (c : Thread nD τ) none Set.univ (m := M) (r := slotR j) (Mk := Finset.univ) (S := (slot M j).view.set) (fun _ h => h)) $$ H
  iintro H
  iapply Hk
  iexists _; isplitr [H]; rotate_left; · iexact H
  ipureintro
  exact View.read_write_univ _ _

/-- An element lies in slot `j` when its first coordinate is `j`. -/
theorem mem_slotR (j : Fin 4) (i : S4x512x1024.Idx) : Iff (i ∈ (slotR j).set) ((i 0).val = j.val) := by
  rw [Rect.mem_set_unit]
  constructor
  · intro h
    have h0 := h 0
    simp only [Matrix.cons_val_zero] at h0
    have : S1x512x1024.size 0 = 1 := rfl
    omega
  · intro h a
    have h1 : (i 1).val < 512 := (i 1).isLt
    have h2 : (i 2).val < 1024 := (i 2).isLt
    fin_cases a
    · exact ⟨by show j.val ≤ (i 0).val; omega, by show (i 0).val < j.val + 1; omega⟩
    · exact ⟨Nat.zero_le _, by show (i 1).val < 0 + 512; omega⟩
    · exact ⟨Nat.zero_le _, by show (i 2).val < 0 + 1024; omega⟩

/-- The slots are disjoint -/
theorem slot_disjoint (M : Scr) {i j : Fin 4} (h : i ≠ j) : Disjoint (slot M i).view.set (slot M j).view.set := by
  show Disjoint (M.view.slice (slotR i)).set (M.view.slice (slotR j)).set
  rw [View.set_slice, View.set_slice, Finset.disjoint_map]
  rw [Finset.disjoint_left]
  intro x hx hy
  exact h (Fin.ext (((mem_slotR i x).mp hx).symm.trans ((mem_slotR j x).mp hy)))

/-- and are all the buffer. -/
theorem slot_cover (M : Scr) : (Finset.univ : Finset (Fin 4)).biUnion (fun j => (slot M j).view.set) = M.view.set := by
  ext i
  rw [Finset.mem_biUnion]
  constructor
  · rintro ⟨j, -, hj⟩
    exact View.set_slice_subset _ _ hj
  · intro hi
    obtain ⟨x, -, rfl⟩ := Finset.mem_map.mp hi
    refine ⟨⟨(x 0).val, (x 0).isLt⟩, Finset.mem_univ _, ?_⟩
    refine (View.set_slice M.view (slotR ⟨(x 0).val, (x 0).isLt⟩)).symm.subset ?_
    exact Finset.mem_map_of_mem _ ((mem_slotR _ x).mpr rfl)

/-- A conjunction over the slots, written out. -/
theorem bigSep_slots (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A buffer held whole is its four slots, each at some contents; -/
theorem held_split (M : Scr) (c : Dev nD) (f : Buf (Elt F) (M.view.loc (c : Thread nD τ))) :
    (M.view.loc (c : Thread nD τ) ↦[M.view.set]{fullShare} f : sProp 𝕄)
      ⊢ bigSep Finset.univ fun j : Fin 4 => iprop(∃ X, held M j c fullShare X) := by
  have h (j : Fin 4) : (M.view.loc (c : Thread nD τ) ↦[(slot M j).view.set]{fullShare} f : sProp 𝕄)
      ⊢ iprop(∃ X, held M j c fullShare X) := by
    unfold held owns
    iintro H
    iexists _, f
    isplitr; · (ipureintro; rfl)
    iexact H
  rw [← slot_cover M, pointsTo_biUnion _ _ (fun i _ j _ h => slot_disjoint M h)]
  exact bigSep_mono fun j _ => h j

/-- and the four slots are the buffer again, at some contents. -/
theorem held_merge (M : Scr) (c : Dev nD) (f₀ : Buf (Elt F) (M.view.loc (c : Thread nD τ))) :
    (bigSep Finset.univ fun j : Fin 4 => iprop(∃ X, held M j c fullShare X))
      ⊢ (iprop(∃ f, M.view.loc (c : Thread nD τ) ↦[M.view.set]{fullShare} f) : sProp 𝕄) := by
  have h : (bigSep Finset.univ fun j : Fin 4 => iprop(∃ X, held M j c fullShare X))
      ⊢ (bigSep Finset.univ fun j : Fin 4 => iprop(∃ f, M.view.loc (c : Thread nD τ) ↦[(slot M j).view.set]{fullShare} f) : sProp 𝕄) := by
    have h1 (j : Fin 4) : (iprop(∃ X, held M j c fullShare X) : sProp 𝕄)
        ⊢ iprop(∃ f, M.view.loc (c : Thread nD τ) ↦[(slot M j).view.set]{fullShare} f) := by
      unfold held owns
      iintro ⟨%X, %f, -, H⟩
      iexists f; iexact H
    exact bigSep_mono fun j _ => h1 j
  refine h.trans ?_
  iintro H
  ihave H' := (BI.bigSep_exists_pi Finset.univ (fun (j : Fin 4) (f : Buf (Elt F) (M.view.loc (c : Thread nD τ))) =>
    (M.view.loc (c : Thread nD τ) ↦[(slot M j).view.set]{fullShare} f : sProp 𝕄))) $$ H
  icases H' with ⟨%fs, H⟩
  ihave H' := (pointsTo_biUnion_join Finset.univ (fun j : Fin 4 => (slot M j).view.set) fs f₀ (fun i _ j _ h => slot_disjoint M h)) $$ H
  icases H' with ⟨%g, -, H⟩
  rw [slot_cover M]
  iexists g; iexact H

end Cert.KernelIdeal.Ring

end
-- ==== Proof.KernelIdeal.Contents.lean ====
/- What every buffer of the ring holds. Device `c` starts from its block of `x` and its columns of the weights. The blocks of
   `x` travel rightwards; each device computes its heads' queries, keys and values of every block; the partial outputs
   travel rightwards too, each device adding its own. -/
module

public import proofs.«01_k».proof.Proof.KernelIdeal.Slots

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What a load at rectangle `r` reads of a buffer holding `X`. -/
abbrev cut {s : Shape} {α : Type} (r : Rect s) (X : s.Idx → α) : r.toLoadRect.shape.Idx → α := fun x => X (r.emb x)

/-! ## The buffers -/

abbrev xM : Memref sig .tc .vmem S1x512x1024 .bf16 := Memref.whole cc0_stg0_0
abbrev wqM : Memref sig .tc .vmem S1024x1024 .bf16 := Memref.whole cc0_stg1_0
abbrev woM : Memref sig .tc .vmem S1024x1024 .bf16 := Memref.whole cc0_stg2_0
abbrev wkM : Memref sig .tc .vmem S1024x1024 .bf16 := Memref.whole cc0_stg3_0
abbrev wvM : Memref sig .tc .vmem S1024x1024 .bf16 := Memref.whole cc0_stg4_0
abbrev oM : Memref sig .tc .vmem S1x512x1024 .f32 := Memref.whole cc0_stg5_0
/-- the gathered blocks of `x`, -/
abbrev xgM : Scr := Memref.whole cc0_scratch0
/-- the queries, keys and values of the device's heads, -/
abbrev qM : Memref sig .tc .vmem S2048x1024 .bf16 := Memref.whole cc0_scratch1
abbrev kM : Memref sig .tc .vmem S2048x1024 .bf16 := Memref.whole cc0_scratch2
abbrev vM : Memref sig .tc .vmem S2048x1024 .bf16 := Memref.whole cc0_scratch3
/-- the partial outputs under way. -/
abbrev rsM : Scr := Memref.whole cc0_scratch4

/-! ## The ring -/

set_option backward.proofsInPublic true in
/-- The device to the right, -/
def nxt (c : Dev nD) : Dev nD := ⟨(c.val + 1) % 4, Nat.mod_lt _ (by decide)⟩
set_option backward.proofsInPublic true in
/-- and to the left. -/
def prv (c : Dev nD) : Dev nD := ⟨(c.val + 3) % 4, Nat.mod_lt _ (by decide)⟩

/-- The left neighbour of the right one is the device; -/
theorem prv_nxt (c : Dev nD) : prv (nxt c) = c := by revert c; decide
/-- so is the right neighbour of the left one. -/
theorem nxt_prv (c : Dev nD) : nxt (prv c) = c := by revert c; decide

/-! ## What the kernel computes on one device -/

/-- The whole of a weight, and of a block, as a rectangle. -/
abbrev rW : Rect S1024x1024 := Rect.unit (s := S1024x1024) ![0, 0] S1024x1024.size inb_S1024x1024_S1024x1024_0_0
abbrev rX : Rect S1x512x1024 := Rect.unit (s := S1x512x1024) ![0, 0, 0] S1x512x1024.size inb_S1x512x1024_S1x512x1024_0_0_0

/-- The whole block places every index at itself. -/
theorem rX_emb (x : S1x512x1024.Idx) : (rX).emb x = x := by
  funext a
  fin_cases a <;> exact Fin.ext (by show 0 + 1 * _ = _; omega)

/-- A row block lies in the buffer; -/
theorem rows_inb (j : Fin 4) : ∀ a, (![512 * j.val, 0] : Fin 2 → Nat) a + S512x1024.size a ≤ S2048x1024.size a := by
  revert j; decide
/-- a head's columns of a row block do; -/
theorem qhead_inb (j : Fin 4) (h : Fin 8) : ∀ a, (![512 * j.val, 128 * h.val] : Fin 2 → Nat) a + S512x128.size a ≤ S2048x1024.size a := by
  revert j h; decide
/-- a head's columns of all rows do; -/
theorem khead_inb (h : Fin 8) : ∀ a, (![0, 128 * h.val] : Fin 2 → Nat) a + S2048x128.size a ≤ S2048x1024.size a := by
  revert h; decide
/-- a head's rows of the output weight do. -/
theorem ohead_inb (h : Fin 8) : ∀ a, (![128 * h.val, 0] : Fin 2 → Nat) a + S128x1024.size a ≤ S1024x1024.size a := by
  revert h; decide

/-- Row block `j` of a 2048-row buffer; -/
abbrev rRows (j : Fin 4) : Rect S2048x1024 := Rect.unit (s := S2048x1024) ![512 * j.val, 0] S512x1024.size (rows_inb j)
/-- head `h`'s columns of row block `j`; -/
abbrev rQ (j : Fin 4) (h : Fin 8) : Rect S2048x1024 := Rect.unit (s := S2048x1024) ![512 * j.val, 128 * h.val] S512x128.size (qhead_inb j h)
/-- head `h`'s columns of all rows; -/
abbrev rK (h : Fin 8) : Rect S2048x1024 := Rect.unit (s := S2048x1024) ![0, 128 * h.val] S2048x128.size (khead_inb h)
/-- head `h`'s rows of the output weight. -/
abbrev rO (h : Fin 8) : Rect S1024x1024 := Rect.unit (s := S1024x1024) ![128 * h.val, 0] S128x1024.size (ohead_inb h)

/-- The four row blocks `X` as one buffer. -/
def rowsOf (X : Fin 4 → Vec F S512x1024 .bf16) : Vec F S2048x1024 .bf16 := fun i =>
  X ⟨(i 0).val / 512, by have : (i 0).val < 2048 := (i 0).isLt; omega⟩
    (fun a => match a with
      | ⟨0, _⟩ => ⟨(i 0).val % 512, Nat.mod_lt _ (by decide)⟩
      | ⟨1, _⟩ => ⟨(i 1).val, (i 1).isLt⟩)

/-- The rows below `512 n` those of the blocks `X`, the others `f`'s. -/
def fill (n : ℕ) (X : Fin 4 → Vec F S512x1024 .bf16) (f : Vec F S2048x1024 .bf16) : Vec F S2048x1024 .bf16 := fun i =>
  if (i 0).val < 512 * n then rowsOf X i else f i

/-- One head's attention of 512 queries over the 2048 keys and values. -/
abbrev att (q : Vec F S512x128 .bf16) (k v : Vec F S2048x128 .bf16) : FVec F S512x128 .bf16 := k0_pay23 q k v

/-- `acc` and a head's attention through its rows of the output weight. -/
def addHead (acc : FVec F S512x1024 .f32) (o : FVec F S512x128 .bf16) (w : Vec F S128x1024 .bf16) : FVec F S512x1024 .f32 :=
  addf acc (matmul dot_S512x128_S128x1024_S512x1024_1_0_0_1_n_n none o (shapeCast S128x1024 w shapeCasts_S128x1024_S128x1024)
    (constant S512x1024 .f32 0x00000000#32))

/-- Head `h` added to `acc`, for the queries of row block `j`. -/
def headStep (Q K V : Vec F S2048x1024 .bf16) (W : Vec F S1024x1024 .bf16) (j : Fin 4) (acc : FVec F S512x1024 .f32) (h : Fin 8) :
    FVec F S512x1024 .f32 :=
  addHead acc (att (cut (rQ j h) Q) (cut (rK h) K) (cut (rK h) V)) (cut (rO h) W)

/-- The partial output of row block `j`: the device's eight heads. -/
def partOf (Q K V : Vec F S2048x1024 .bf16) (W : Vec F S1024x1024 .bf16) (j : Fin 4) : FVec F S512x1024 .f32 :=
  headStep Q K V W j (headStep Q K V W j (headStep Q K V W j (headStep Q K V W j (headStep Q K V W j (headStep Q K V W j
    (headStep Q K V W j (headStep Q K V W j k0_pay22 0) 1) 2) 3) 4) 5) 6) 7

/-- A partial output as it is first sent: rounded, with a leading unit axis; -/
def sendOf (p : FVec F S512x1024 .f32) : Blk F :=
  shapeCast S1x512x1024 (truncf .bf16 p bitsLt_bf16_f32) shapeCasts_S512x1024_S1x512x1024
/-- with what came from the left added and rounded. -/
def accOf (p : FVec F S512x1024 .f32) (r : Blk F) : Blk F := k0_pay46 p r

/-! ## What each device's buffers hold -/

variable (m : (ℓ : Loc nD τ sig) → Buf (Elt F) ℓ)

/-- Device `c`'s block of `x` and its weights, as staged. -/
def xS (c : Dev nD) : Blk F := (win0_0.blk (0 : Fin 1)).view.read (Elt F) (m ((c : Thread nD τ).loc main_arg0))
def wqS (c : Dev nD) : Vec F S1024x1024 .bf16 := (win0_1.blk (0 : Fin 1)).view.read (Elt F) (m ((c : Thread nD τ).loc main_arg1))
def woS (c : Dev nD) : Vec F S1024x1024 .bf16 := (win0_2.blk (0 : Fin 1)).view.read (Elt F) (m ((c : Thread nD τ).loc main_arg4))
def wkS (c : Dev nD) : Vec F S1024x1024 .bf16 := (win0_3.blk (0 : Fin 1)).view.read (Elt F) (m ((c : Thread nD τ).loc main_arg2))
def wvS (c : Dev nD) : Vec F S1024x1024 .bf16 := (win0_4.blk (0 : Fin 1)).view.read (Elt F) (m ((c : Thread nD τ).loc main_arg3))

/-- The block of `x` that device `c` holds in slot `j`: the one that started `j` devices to the left. -/
def gx : ℕ → Dev nD → Blk F
  | 0, c => k0_pay2 (cut rX (xS m c))
  | j + 1, c => gx j (prv c)

/-- Queries, keys and values of slot `j`. -/
def qC (c : Dev nD) (j : Fin 4) : Vec F S512x1024 .bf16 := k0_pay4 (gx m j.val c) (cut rW (wqS m c))
def kC (c : Dev nD) (j : Fin 4) : Vec F S512x1024 .bf16 := k0_pay5 (gx m j.val c) (cut rW (wkS m c))
def vC (c : Dev nD) (j : Fin 4) : Vec F S512x1024 .bf16 := k0_pay6 (gx m j.val c) (cut rW (wvS m c))

/-- The partial output of slot `j` on device `c`. -/
def part (c : Dev nD) (j : Fin 4) : FVec F S512x1024 .f32 :=
  partOf (rowsOf (qC m c)) (rowsOf (kC m c)) (rowsOf (vC m c)) (woS m c) j

/-- What travels: the first partial output, and the two sums. -/
def r0 (c : Dev nD) : Blk F := sendOf (part m c 1)
def r1 (c : Dev nD) : Blk F := accOf (part m c 2) (r0 m (prv c))
def r2 (c : Dev nD) : Blk F := accOf (part m c 3) (r1 m (prv c))
/-- The result on device `c`. -/
def outAt (c : Dev nD) : FVec F S1x512x1024 .f32 := k0_pay1 (part m c 0) (r2 m (prv c))

/-- What device `c` sends in copy `k`. -/
def snd (k : Fin 6) (c : Dev nD) : Blk F := match k with
  | 0 => gx m 0 c | 1 => gx m 1 c | 2 => gx m 2 c | 3 => r0 m c | 4 => r1 m c | 5 => r2 m c

end Cert.KernelIdeal.Ring

end
-- ==== Proof.Value.Average.lean ====
/- The softmax average over the extended reals: a weighted average of values with weights `exp (score − greatest score)`. It depends on
   no order of its terms, and taking the terms in two halves, the first half's sums rescaled when the greatest score grows, gives it too. -/
module

public import Idealize.ShloMosaic.PureOps.Ideal

@[expose] public section

noncomputable section

namespace Cert.Value

open Idealize.ShloMosaic

variable {ι : Type} [Fintype ι]

/-- The greatest score, `-∞` where there is none. -/
def top (s : ι → EReal) : EReal := Finset.univ.fold max ⊥ s

/-- The values weighted against the level `M`. -/
def weighted (M : EReal) (s v : ι → EReal) : EReal := ∑ k, Ideal.exp (s k - M) * v k

/-- The weights' sum against the level `M`. -/
def total (M : EReal) (s : ι → EReal) : EReal := ∑ k, Ideal.exp (s k - M)

/-- The softmax average of `v` at the scores `s`. -/
def average (s v : ι → EReal) : EReal := Ideal.div (weighted (top s) s v) (total (top s) s)

/-- The greatest score is the supremum. -/
theorem top_eq_sup (s : ι → EReal) : top s = Finset.univ.sup s := rfl
/-- No score is above the greatest. -/
theorem le_top (s : ι → EReal) (k : ι) : s k ≤ top s := Finset.le_sup (f := s) (Finset.mem_univ k)

/-- The average is the same however its terms are numbered. -/
theorem average_equiv {κ : Type} [Fintype κ] (e : κ ≃ ι) (s v : ι → EReal) : average (fun k => s (e k)) (fun k => v (e k)) = average s v := by
  have ht : top (fun k => s (e k)) = top s := by
    apply le_antisymm
    · exact Finset.sup_le fun k _ => le_top s (e k)
    · refine Finset.sup_le fun k _ => ?_
      have h := le_top (fun k => s (e k)) (e.symm k)
      simpa only [Equiv.apply_symm_apply] using h
  unfold average weighted total
  rw [ht]
  exact congrArg₂ _ (e.sum_comp fun k => Ideal.exp (s k - top s) * v k) (e.sum_comp fun k => Ideal.exp (s k - top s))

/-- A sum times a nonnegative real. -/
theorem sum_mul_real (f : ι → EReal) (a : ℝ) (ha : 0 ≤ a) : (∑ k, f k) * (a : EReal) = ∑ k, f k * a := by
  classical
  have h (t : Finset ι) : (∑ k ∈ t, f k) * (a : EReal) = ∑ k ∈ t, f k * a := by
    induction t using Finset.induction_on with
    | empty => simp
    | insert k t hk ih =>
      rw [Finset.sum_insert hk, Finset.sum_insert hk, ← ih]
      exact EReal.right_distrib_of_nonneg_of_ne_top (EReal.coe_nonneg.mpr ha) (EReal.coe_ne_top a) _ _
  exact h Finset.univ

/-- Raising the level from `M`, at least every score, to `M'` multiplies the weighted sum by `exp (M − M')`. -/
theorem weighted_rescale (M M' : EReal) (h : M ≤ M') (s v : ι → EReal) (hs : ∀ k, s k ≤ M) :
    weighted M s v * Ideal.exp (M - M') = weighted M' s v := by
  unfold weighted
  induction M' with
  | top => simp only [EReal.sub_top, Ideal.exp_bot, mul_zero, zero_mul, Finset.sum_const_zero]
  | bot =>
    have hM : M = ⊥ := le_bot_iff.mp h
    subst hM
    have hk : ∀ k, s k = ⊥ := fun k => le_bot_iff.mp (hs k)
    simp only [hk, EReal.bot_sub, Ideal.exp_bot, mul_zero, zero_mul, Finset.sum_const_zero]
  | coe b =>
    induction M with
    | top => exact absurd h (by simp)
    | bot =>
      have hk : ∀ k, s k = ⊥ := fun k => le_bot_iff.mp (hs k)
      simp only [hk, EReal.bot_sub, Ideal.exp_bot, mul_zero, zero_mul, Finset.sum_const_zero]
    | coe a =>
      rw [← EReal.coe_sub, Ideal.exp_coe, sum_mul_real _ _ (Real.exp_pos _).le]
      refine Finset.sum_congr rfl fun k _ => ?_
      have hk := hs k
      generalize s k = x at hk
      induction x with
      | top => exact absurd hk (by simp)
      | bot => simp only [EReal.bot_sub, Ideal.exp_bot, zero_mul]
      | coe x =>
        rw [← EReal.coe_sub, ← EReal.coe_sub, Ideal.exp_coe, Ideal.exp_coe, mul_right_comm, ← EReal.coe_mul, ← Real.exp_add, sub_add_sub_cancel]

/-- The weights' sum is the weighted sum of ones. -/
theorem total_eq_weighted (M : EReal) (s : ι → EReal) : total M s = weighted M s fun _ => 1 := by
  unfold total weighted; simp only [mul_one]

/-- The same of the weights' sum. -/
theorem total_rescale (M M' : EReal) (h : M ≤ M') (s : ι → EReal) (hs : ∀ k, s k ≤ M) : total M s * Ideal.exp (M - M') = total M' s := by
  rw [total_eq_weighted, total_eq_weighted, weighted_rescale M M' h s _ hs]

/-- The two halves of a family over 2048 places. -/
abbrev lo {α : Type} (s : Fin 2048 → α) : Fin 1024 → α := fun k => s ⟨k.val, by omega⟩
abbrev hi {α : Type} (s : Fin 2048 → α) : Fin 1024 → α := fun k => s ⟨1024 + k.val, by omega⟩

/-- A sum is the sum of its halves; -/
theorem sum_halves (f : Fin 2048 → EReal) : ∑ k, f k = ∑ k, lo f k + ∑ k, hi f k := Fin.sum_univ_add (a := 1024) (b := 1024) f

/-- the greatest score is the greater of the halves'; -/
theorem top_halves (s : Fin 2048 → EReal) : top s = max (top (lo s)) (top (hi s)) := by
  apply le_antisymm
  · refine Finset.sup_le fun k _ => ?_
    by_cases h : k.val < 1024
    · exact le_max_of_le_left (le_top (lo s) ⟨k.val, h⟩)
    · have hk := le_top (hi s) ⟨k.val - 1024, by omega⟩
      refine le_max_of_le_right (le_trans (le_of_eq (congrArg s (Fin.ext ?_))) hk)
      show k.val = 1024 + (k.val - 1024); omega
  · exact max_le (Finset.sup_le fun k _ => le_top s _) (Finset.sup_le fun k _ => le_top s _)

/-- The running form: the first half's sums at its own greatest score, rescaled to the whole's and added to the second half's. -/
theorem weighted_halves (s v : Fin 2048 → EReal) :
    weighted (top (lo s)) (lo s) (lo v) * Ideal.exp (top (lo s) - max (top (lo s)) (top (hi s))) + weighted (max (top (lo s)) (top (hi s))) (hi s) (hi v)
      = weighted (top s) s v := by
  rw [weighted_rescale _ _ (le_max_left _ _) _ _ (le_top (lo s)), ← top_halves]
  exact (sum_halves fun k => Ideal.exp (s k - top s) * v k).symm

/-- The running form of the weights' sum. -/
theorem total_halves (s : Fin 2048 → EReal) :
    total (top (lo s)) (lo s) * Ideal.exp (top (lo s) - max (top (lo s)) (top (hi s))) + total (max (top (lo s)) (top (hi s))) (hi s)
      = total (top s) s := by
  rw [total_rescale _ _ (le_max_left _ _) _ (le_top (lo s)), ← top_halves]
  exact (sum_halves fun k => Ideal.exp (s k - top s)).symm

end Cert.Value

end
-- ==== Proof.Value.Attention.lean ====
/- Multi-head attention over the extended reals, as one formula: a head's average of a query, and the output row as the sum over all
   heads' places against the output weight. -/
module

public import proofs.«01_k».proof.Proof.Value.Average

@[expose] public section

noncomputable section

namespace Cert.Value

open Idealize.ShloMosaic

/-- The scale of the scores. -/
def scale : EReal := Ideal.ofBits FTy.f32 0x3DB504F3#32

/-- The word a maximum starts from is `-∞`. -/
theorem neg_inf : Ideal.ofBits FTy.f32 0xFF800000#32 = ⊥ := by
  simp [Ideal.ofBits, Ideal.ieee]

/-- Place `e` of head `h` among the 4096 columns; -/
abbrev col (h : Fin 32) (e : Fin 128) : Fin 4096 := ⟨h.val * 128 + e.val, by omega⟩
/-- the head of a column, and its place in the head. -/
abbrev headOf (t : Fin 4096) : Fin 32 := ⟨t.val / 128, by omega⟩
abbrev place (t : Fin 4096) : Fin 128 := ⟨t.val % 128, by omega⟩

/-- The scores of one query against keys. -/
def score {ι : Type} (q : Fin 128 → EReal) (k : ι → Fin 128 → EReal) : ι → EReal := fun j => (∑ d, q d * k j d) * scale

/-- A projection of the input's row `i` to place `e` of head `h`. -/
def lin (x : Fin 2048 → Fin 1024 → EReal) (w : Fin 1024 → Fin 4096 → EReal) (i : Fin 2048) (h : Fin 32) (e : Fin 128) : EReal :=
  ∑ k, x i k * w k (col h e)

/-- Head `h`'s average for query `i`, at place `e`. -/
def attn (x : Fin 2048 → Fin 1024 → EReal) (wq wk wv : Fin 1024 → Fin 4096 → EReal) (i : Fin 2048) (h : Fin 32) (e : Fin 128) : EReal :=
  average (score (lin x wq i h) fun j => lin x wk j h) fun j => lin x wv j h e

/-- The output at row `i` and column `n`. -/
def output (x : Fin 2048 → Fin 1024 → EReal) (wq wk wv : Fin 1024 → Fin 4096 → EReal) (wo : Fin 4096 → Fin 1024 → EReal) (i : Fin 2048) (n : Fin 1024) : EReal :=
  ∑ t, attn x wq wk wv i (headOf t) (place t) * wo t n

/-- Head `h` of the eight of device `d`. -/
abbrev headAt (d : Fin 4) (h : Fin 8) : Fin 32 := ⟨d.val * 8 + h.val, by omega⟩

/-- Device `d`'s share of the output: its eight heads. -/
def share (x : Fin 2048 → Fin 1024 → EReal) (wq wk wv : Fin 1024 → Fin 4096 → EReal) (wo : Fin 4096 → Fin 1024 → EReal) (i : Fin 2048) (n : Fin 1024)
    (d : Fin 4) : EReal :=
  ∑ h : Fin 8, ∑ e : Fin 128, attn x wq wk wv i (headAt d h) e * wo (col (headAt d h) e) n

/-- A sum over pairs, numbered as a division with remainder. -/
theorem sum_pairs (a b : ℕ) (f : Fin (a * b) → EReal) :
    ∑ t, f t = ∑ i : Fin a, ∑ j : Fin b, f (finProdFinEquiv (i, j)) := by
  rw [← finProdFinEquiv.sum_comp f]
  exact Fintype.sum_prod_type fun p => f (finProdFinEquiv p)

/-- The output is the sum of the devices' shares. -/
theorem output_eq (x : Fin 2048 → Fin 1024 → EReal) (wq wk wv : Fin 1024 → Fin 4096 → EReal) (wo : Fin 4096 → Fin 1024 → EReal) (i : Fin 2048)
    (n : Fin 1024) : output x wq wk wv wo i n = ∑ d, share x wq wk wv wo i n d := by
  have hp (f : Fin 32 → Fin 128 → Fin 4096 → EReal) (g : Fin 32 → Fin 128 → EReal) (hg : ∀ h e, f h e (col h e) = g h e) :
      ∑ t : Fin 4096, f (headOf t) (place t) t = ∑ h, ∑ e, g h e := by
    refine (sum_pairs 32 128 _).trans (Finset.sum_congr rfl fun h _ => Finset.sum_congr rfl fun e _ => ?_)
    rw [← hg]
    have ht : (finProdFinEquiv (h, e) : Fin (32 * 128)) = col h e := Fin.ext (by
      show e.val + 128 * h.val = h.val * 128 + e.val; omega)
    have hh : headOf (col h e) = h := Fin.ext (by show (h.val * 128 + e.val) / 128 = h.val; omega)
    have he : place (col h e) = e := Fin.ext (by show (h.val * 128 + e.val) % 128 = e.val; omega)
    rw [ht, hh, he]
  unfold output share
  refine (hp (fun h e t => attn x wq wk wv i h e * wo t n) _ fun _ _ => rfl).trans ((sum_pairs 4 8 _).trans ?_)
  refine Finset.sum_congr rfl fun d _ => Finset.sum_congr rfl fun h _ => ?_
  have ht : (finProdFinEquiv (d, h) : Fin (4 * 8)) = headAt d h := Fin.ext (by show h.val + 8 * d.val = d.val * 8 + h.val; omega)
  rw [ht]

end Cert.Value

end
-- ==== Proof.Value.Kernel.lean ====
/- What one device computes, at an index: the projections, a head's attention as a softmax average, and the partial output of a row
   block as the sum of the device's heads. -/
module

public import proofs.«01_k».proof.Proof.KernelIdeal.Contents
public import proofs.«01_k».proof.Proof.Value.Attention
public import Idealize.ShloMosaic.Lib.Pointwise

@[expose] public section

set_option maxRecDepth 16384

noncomputable section

namespace Cert.KernelIdeal.Ring

open Cert.KernelIdeal Cert.KernelIdeal.Gen Cert.Value
open Idealize.ShloMosaic

/-! ## The cuts -/

/-- An index of a head's columns of a row block, in the buffer; -/
theorem rQ_emb (j : Fin 4) (h : Fin 8) (r : Fin 512) (d : Fin 128) :
    (rQ j h).emb (ix2 r d) = ix2 ⟨512 * j.val + r.val, by omega⟩ ⟨128 * h.val + d.val, by omega⟩ := by
  funext a; match a with
  | ⟨0, _⟩ => exact Fin.ext (show 512 * j.val + 1 * r.val = 512 * j.val + r.val by omega)
  | ⟨1, _⟩ => exact Fin.ext (show 128 * h.val + 1 * d.val = 128 * h.val + d.val by omega)

/-- of a head's columns of all rows; -/
theorem rK_emb (h : Fin 8) (r : Fin 2048) (d : Fin 128) : (rK h).emb (ix2 r d) = ix2 r ⟨128 * h.val + d.val, by omega⟩ := by
  funext a; match a with
  | ⟨0, _⟩ => exact Fin.ext (show 0 + 1 * r.val = r.val by omega)
  | ⟨1, _⟩ => exact Fin.ext (show 128 * h.val + 1 * d.val = 128 * h.val + d.val by omega)

/-- of a head's rows of the output weight; -/
theorem rO_emb (h : Fin 8) (r : Fin 128) (d : Fin 1024) : (rO h).emb (ix2 r d) = ix2 ⟨128 * h.val + r.val, by omega⟩ d := by
  funext a; match a with
  | ⟨0, _⟩ => exact Fin.ext (show 128 * h.val + 1 * r.val = 128 * h.val + r.val by omega)
  | ⟨1, _⟩ => exact Fin.ext (show 0 + 1 * d.val = d.val by omega)

/-- of a whole weight. -/
theorem rW_emb (r : Fin 1024) (d : Fin 1024) : rW.emb (ix2 r d) = ix2 r d := by
  funext a; match a with
  | ⟨0, _⟩ => exact Fin.ext (show 0 + 1 * r.val = r.val by omega)
  | ⟨1, _⟩ => exact Fin.ext (show 0 + 1 * d.val = d.val by omega)

/-- Four row blocks as one buffer, at an index. -/
theorem rowsOf_apply (X : Fin 4 → Vec Ideal S512x1024 .bf16) (t : Fin 2048) (d : Fin 1024) :
    rowsOf X (ix2 t d) = X ⟨t.val / 512, by omega⟩ (ix2 ⟨t.val % 512, by omega⟩ d) := by
  refine congrArg (X _) (funext fun a => ?_)
  match a with
  | ⟨0, _⟩ => rfl
  | ⟨1, _⟩ => rfl

/-! ## The payloads -/

/-- The block of `x` is taken as it is. -/
theorem pay2_apply (x : Vec Ideal S1x512x1024 .bf16) (r : Fin 512) (k : Fin 1024) : k0_pay2 x (ix3 0 r k) = x (ix3 0 r k) := by
  pointwise [k0_pay2]

/-- The queries are a product of the block and the weight; -/
theorem pay4_apply (x : Vec Ideal S1x512x1024 .bf16) (w : Vec Ideal S1024x1024 .bf16) (r : Fin 512) (d : Fin 1024) :
    k0_pay4 x w (ix2 r d) = ∑ y : Fin 1024, x (ix3 0 r y) * w (ix2 y d) := by
  pointwise [k0_pay4, k0_pay3]

/-- so are the keys; -/
theorem pay5_apply (x : Vec Ideal S1x512x1024 .bf16) (w : Vec Ideal S1024x1024 .bf16) (r : Fin 512) (d : Fin 1024) :
    k0_pay5 x w (ix2 r d) = ∑ y : Fin 1024, x (ix3 0 r y) * w (ix2 y d) := by
  pointwise [k0_pay5, k0_pay3]

/-- so are the values. -/
theorem pay6_apply (x : Vec Ideal S1x512x1024 .bf16) (w : Vec Ideal S1024x1024 .bf16) (r : Fin 512) (d : Fin 1024) :
    k0_pay6 x w (ix2 r d) = ∑ y : Fin 1024, x (ix3 0 r y) * w (ix2 y d) := by
  pointwise [k0_pay6, k0_pay3]

/-- A head's attention is the softmax average of the values at the query's scores. -/
theorem att_apply (q : Vec Ideal S512x128 .bf16) (k v : Vec Ideal S2048x128 .bf16) (r : Fin 512) (d : Fin 128) :
    att q k v (ix2 r d) = average (score (fun d => q (ix2 r d)) fun j d => k (ix2 j d)) fun j => v (ix2 j d) := by
  pointwise [att, k0_pay23]
  unfold average weighted total top score scale
  rw [neg_inf]

/-- Adding a head adds its product with the output weight's rows. -/
theorem addHead_apply (a : FVec Ideal S512x1024 .f32) (o : FVec Ideal S512x128 .bf16) (w : Vec Ideal S128x1024 .bf16) (r : Fin 512) (d : Fin 1024) :
    addHead a o w (ix2 r d) = a (ix2 r d) + ∑ x : Fin 128, o (ix2 r x) * w (ix2 x d) := by
  pointwise [addHead]

/-- The heads are added to zero. -/
theorem pay22_apply (r : Fin 512) (d : Fin 1024) : k0_pay22 (F := Ideal) (ix2 r d) = 0 := by
  pointwise [k0_pay22]

/-- The first partial output is sent as it is; -/
theorem sendOf_apply (p : FVec Ideal S512x1024 .f32) (r : Fin 512) (d : Fin 1024) : sendOf p (ix3 0 r d) = p (ix2 r d) := by
  pointwise [sendOf]

/-- what comes from the left is added to; -/
theorem accOf_apply (p : FVec Ideal S512x1024 .f32) (x : Blk Ideal) (r : Fin 512) (d : Fin 1024) :
    accOf p x (ix3 0 r d) = x (ix3 0 r d) + p (ix2 r d) := by
  pointwise [accOf, k0_pay46]

/-- so is the result. -/
theorem pay1_apply (p : FVec Ideal S512x1024 .f32) (x : Blk Ideal) (r : Fin 512) (d : Fin 1024) :
    k0_pay1 p x (ix3 0 r d) = x (ix3 0 r d) + p (ix2 r d) := by
  pointwise [k0_pay1]

/-! ## The partial output -/

/-- Head `h`'s part of the partial output, at row `r` of row block `j` and column `n`. -/
def headPart (Q K V : Vec Ideal S2048x1024 .bf16) (W : Vec Ideal S1024x1024 .bf16) (j : Fin 4) (r : Fin 512) (n : Fin 1024) (h : Fin 8) : EReal :=
  ∑ e : Fin 128, average (score (fun d : Fin 128 => Q (ix2 ⟨512 * j.val + r.val, by omega⟩ ⟨128 * h.val + d.val, by omega⟩))
      fun (t : Fin 2048) (d : Fin 128) => K (ix2 t ⟨128 * h.val + d.val, by omega⟩)) (fun t => V (ix2 t ⟨128 * h.val + e.val, by omega⟩))
    * W (ix2 ⟨128 * h.val + e.val, by omega⟩ n)

/-- A head's step adds its part; -/
theorem headStep_apply (Q K V : Vec Ideal S2048x1024 .bf16) (W : Vec Ideal S1024x1024 .bf16) (j : Fin 4) (acc : FVec Ideal S512x1024 .f32) (h : Fin 8)
    (r : Fin 512) (n : Fin 1024) : headStep Q K V W j acc h (ix2 r n) = acc (ix2 r n) + headPart Q K V W j r n h := by
  unfold headStep headPart
  rw [addHead_apply]
  refine congrArg _ (Finset.sum_congr rfl fun e _ => ?_)
  rw [att_apply]
  simp only [cut, rQ_emb, rK_emb, rO_emb]

/-- the partial output is the sum of the eight. -/
theorem partOf_apply (Q K V : Vec Ideal S2048x1024 .bf16) (W : Vec Ideal S1024x1024 .bf16) (j : Fin 4) (r : Fin 512) (n : Fin 1024) :
    partOf Q K V W j (ix2 r n) = ∑ h, headPart Q K V W j r n h := by
  unfold partOf
  simp only [headStep_apply, pay22_apply, zero_add, Fin.sum_univ_eight]

end Cert.KernelIdeal.Ring

end
-- ==== Proof.Value.Ring.lean ====
/- What the ring computes, at an index: the slots hold the blocks of the input in another order on each device, which the averages do
   not see; each device's partial output is its share of the output's rows, and the result on a device is the sum of the four
   devices' shares. -/
module

public import proofs.«01_k».proof.Proof.Value.Kernel

@[expose] public section

noncomputable section

namespace Cert.KernelIdeal.Ring

open Cert.KernelIdeal Cert.KernelIdeal.Gen Cert.Value
open Idealize.ShloMosaic

/-- The device whose block of the input lies in slot `j` of device `c`. -/
def org : ℕ → Dev nD → Dev nD
  | 0, c => c
  | j + 1, c => org j (prv c)

/-- A device's slots hold the blocks of distinct devices. -/
theorem org_inj (c : Dev nD) (j k : Fin 4) (h : org j.val c = org k.val c) : j = k := by
  revert c j k; decide

/-- Row `r` of device `d`'s block. -/
abbrev rowAt (d : Dev nD) (r : Fin 512) : Fin 2048 := ⟨512 * d.val + r.val, by have h : d.val < 4 := d.isLt; omega⟩

/-- The row of the input that lies at row `t` of the slots of device `c`. -/
def rowIn (c : Dev nD) (t : Fin 2048) : Fin 2048 := rowAt (org (t.val / 512) c) ⟨t.val % 512, Nat.mod_lt _ (by decide)⟩

/-- Distinct rows of the slots are distinct rows of the input. -/
theorem rowIn_injective (c : Dev nD) : Function.Injective (rowIn c) := by
  intro t u h
  have hv : 512 * (org (t.val / 512) c).val + t.val % 512 = 512 * (org (u.val / 512) c).val + u.val % 512 := congrArg Fin.val h
  have ho : org (t.val / 512) c = org (u.val / 512) c := Fin.ext (by omega)
  have hj : (⟨t.val / 512, by omega⟩ : Fin 4) = ⟨u.val / 512, by omega⟩ := org_inj c _ _ ho
  have hj' : t.val / 512 = u.val / 512 := congrArg Fin.val hj
  rw [ho] at hv
  exact Fin.ext (by omega)

/-- The slots' rows are the input's, renumbered. -/
def rowEquiv (c : Dev nD) : Fin 2048 ≃ Fin 2048 := Equiv.ofBijective (rowIn c) (Finite.injective_iff_bijective.mp (rowIn_injective c))

/-- A column of a device's heads. -/
theorem col_eq (c : Dev nD) (h : Fin 8) (e : Fin 128) :
    (⟨c.val * 1024 + (128 * h.val + e.val), by have h : c.val < 4 := c.isLt; omega⟩ : Fin 4096) = col (headAt c h) e :=
  Fin.ext (by show c.val * 1024 + (128 * h.val + e.val) = (c.val * 8 + h.val) * 128 + e.val; omega)

/-- The left neighbour's last slot holds the device's own block. -/
theorem org_ring (c : Dev nD) : org 3 (prv c) = c := by revert c; decide

/-- The sum over the devices, from any of them leftwards. -/
theorem sum_ring (f : Dev nD → EReal) (c : Dev nD) : f (prv (prv (prv c))) + f (prv (prv c)) + f (prv c) + f c = ∑ d, f d := by
  have hs : ∑ d, f d = f 0 + f 1 + f 2 + f 3 := Fin.sum_univ_four f
  rw [hs]
  obtain rfl | rfl | rfl | rfl : c = 0 ∨ c = 1 ∨ c = 2 ∨ c = 3 := by revert c; decide
  · show f 1 + f 2 + f 3 + f 0 = _; ac_rfl
  · show f 2 + f 3 + f 0 + f 1 = _; ac_rfl
  · show f 3 + f 0 + f 1 + f 2 = _; ac_rfl
  · rfl

/-- Every device's buffers, staged, are its blocks of the input `x` and of the weights. -/
structure Holds (m : (ℓ : Loc nD τ sig) → Buf (Elt Ideal) ℓ) (x : Fin 2048 → Fin 1024 → EReal) (wq wk wv : Fin 1024 → Fin 4096 → EReal)
    (wo : Fin 4096 → Fin 1024 → EReal) : Prop where
  x : ∀ (c : Dev nD) (r : Fin 512) (k : Fin 1024), xS m c (ix3 0 r k) = x (rowAt c r) k
  wq : ∀ (c : Dev nD) (k t : Fin 1024), wqS m c (ix2 k t) = wq k ⟨c.val * 1024 + t.val, by have h : c.val < 4 := c.isLt; omega⟩
  wk : ∀ (c : Dev nD) (k t : Fin 1024), wkS m c (ix2 k t) = wk k ⟨c.val * 1024 + t.val, by have h : c.val < 4 := c.isLt; omega⟩
  wv : ∀ (c : Dev nD) (k t : Fin 1024), wvS m c (ix2 k t) = wv k ⟨c.val * 1024 + t.val, by have h : c.val < 4 := c.isLt; omega⟩
  wo : ∀ (c : Dev nD) (t n : Fin 1024), woS m c (ix2 t n) = wo ⟨c.val * 1024 + t.val, by have h : c.val < 4 := c.isLt; omega⟩ n

section

variable {m : (ℓ : Loc nD τ sig) → Buf (Elt Ideal) ℓ} {x : Fin 2048 → Fin 1024 → EReal} {wq wk wv : Fin 1024 → Fin 4096 → EReal}
  {wo : Fin 4096 → Fin 1024 → EReal} (H : Holds m x wq wk wv wo)
include H

/-- A slot holds the rows of its block of the input. -/
theorem gx_apply (j : ℕ) (c : Dev nD) (r : Fin 512) (k : Fin 1024) : gx m j c (ix3 0 r k) = x (rowAt (org j c) r) k := by
  induction j generalizing c with
  | zero =>
    show k0_pay2 (cut rX (xS m c)) (ix3 0 r k) = _
    rw [pay2_apply]
    simp only [cut, rX_emb]
    exact H.x c r k
  | succ j ih => exact ih (prv c)

/-- The queries of a slot are the projections of its rows; -/
theorem qC_apply (c : Dev nD) (j : Fin 4) (r : Fin 512) (h : Fin 8) (e : Fin 128) :
    qC m c j (ix2 r ⟨128 * h.val + e.val, by omega⟩) = lin x wq (rowAt (org j.val c) r) (headAt c h) e := by
  unfold qC lin
  rw [pay4_apply]
  simp only [cut, rW_emb, gx_apply H, H.wq, col_eq]

/-- so are the keys; -/
theorem kC_apply (c : Dev nD) (j : Fin 4) (r : Fin 512) (h : Fin 8) (e : Fin 128) :
    kC m c j (ix2 r ⟨128 * h.val + e.val, by omega⟩) = lin x wk (rowAt (org j.val c) r) (headAt c h) e := by
  unfold kC lin
  rw [pay5_apply]
  simp only [cut, rW_emb, gx_apply H, H.wk, col_eq]

/-- so are the values. -/
theorem vC_apply (c : Dev nD) (j : Fin 4) (r : Fin 512) (h : Fin 8) (e : Fin 128) :
    vC m c j (ix2 r ⟨128 * h.val + e.val, by omega⟩) = lin x wv (rowAt (org j.val c) r) (headAt c h) e := by
  unfold vC lin
  rw [pay6_apply]
  simp only [cut, rW_emb, gx_apply H, H.wv, col_eq]

/-- A partial output is the device's share of the rows of the slot's block. -/
theorem part_apply (c : Dev nD) (j : Fin 4) (r : Fin 512) (n : Fin 1024) :
    part m c j (ix2 r n) = share x wq wk wv wo (rowAt (org j.val c) r) n c := by
  unfold part share
  rw [partOf_apply]
  refine Finset.sum_congr rfl fun h _ => ?_
  unfold headPart
  refine Finset.sum_congr rfl fun e _ => ?_
  have hq (d : Fin 128) : rowsOf (qC m c) (ix2 (⟨512 * j.val + r.val, by omega⟩ : Fin 2048) ⟨128 * h.val + d.val, by omega⟩)
      = lin x wq (rowAt (org j.val c) r) (headAt c h) d := by
    rw [rowsOf_apply]
    have hj : (⟨(512 * j.val + r.val) / 512, by omega⟩ : Fin 4) = j := Fin.ext (by show (512 * j.val + r.val) / 512 = j.val; omega)
    have hr : (⟨(512 * j.val + r.val) % 512, by omega⟩ : Fin 512) = r := Fin.ext (by show (512 * j.val + r.val) % 512 = r.val; omega)
    rw [hj, hr]
    exact qC_apply H c j r h d
  have hk (t : Fin 2048) (d : Fin 128) : rowsOf (kC m c) (ix2 t ⟨128 * h.val + d.val, by omega⟩) = lin x wk (rowIn c t) (headAt c h) d := by
    rw [rowsOf_apply]; exact kC_apply H c _ _ h d
  have hv (t : Fin 2048) : rowsOf (vC m c) (ix2 t ⟨128 * h.val + e.val, by omega⟩) = lin x wv (rowIn c t) (headAt c h) e := by
    rw [rowsOf_apply]; exact vC_apply H c _ _ h e
  have hw : woS m c (ix2 (⟨128 * h.val + e.val, by omega⟩ : Fin 1024) n) = wo (col (headAt c h) e) n := by
    rw [H.wo, col_eq]
  simp only [hq, hk, hv, hw]
  refine congrArg (· * _) ?_
  exact average_equiv (rowEquiv c) (score (lin x wq (rowAt (org j.val c) r) (headAt c h)) fun t => lin x wk t (headAt c h))
    (fun t => lin x wv t (headAt c h) e)

/-- What travels: the sender's share, -/
theorem r0_apply (c : Dev nD) (r : Fin 512) (n : Fin 1024) : r0 m c (ix3 0 r n) = share x wq wk wv wo (rowAt (org 1 c) r) n c := by
  unfold r0; rw [sendOf_apply]; exact part_apply H c 1 r n

/-- two devices' shares of the same rows, -/
theorem r1_apply (c : Dev nD) (r : Fin 512) (n : Fin 1024) : r1 m c (ix3 0 r n)
    = share x wq wk wv wo (rowAt (org 2 c) r) n (prv c) + share x wq wk wv wo (rowAt (org 2 c) r) n c := by
  unfold r1; rw [accOf_apply, r0_apply H]
  exact congrArg _ (part_apply H c 2 r n)

/-- three devices'. -/
theorem r2_apply (c : Dev nD) (r : Fin 512) (n : Fin 1024) : r2 m c (ix3 0 r n)
    = share x wq wk wv wo (rowAt (org 3 c) r) n (prv (prv c)) + share x wq wk wv wo (rowAt (org 3 c) r) n (prv c)
      + share x wq wk wv wo (rowAt (org 3 c) r) n c := by
  unfold r2; rw [accOf_apply, r1_apply H]
  exact congrArg _ (part_apply H c 3 r n)

/-- The result on device `c` is the output's rows of its block. -/
theorem outAt_apply (c : Dev nD) (r : Fin 512) (n : Fin 1024) : outAt m c (ix3 0 r n) = output x wq wk wv wo (rowAt c r) n := by
  unfold outAt
  rw [pay1_apply, r2_apply H, part_apply H, output_eq, org_ring]
  exact sum_ring (share x wq wk wv wo (rowAt c r) n) c

end

end Cert.KernelIdeal.Ring

end
-- ==== Proof.Value.Reference.lean ====
/- What the reference computes, by stages: each stage of its run named, read at an index, and the result as the sum over heads of
   softmax averages against the output weight. -/
module

public import proofs.«01_k».proof.Proof.Gen.ReferenceIdeal.Run
public import proofs.«01_k».proof.Proof.Value.Attention
public import Idealize.ShloMosaic.Lib.Pointwise

@[expose] public section

set_option maxRecDepth 16384

noncomputable section

namespace Cert.ReferenceIdeal.Attention

open Idealize.ShloMosaic Cert.ReferenceIdeal Cert.ReferenceIdeal.Gen Cert.Value

/-- A fold over the last axis of four, at an index, from the one element it starts from. -/
theorem fold_last {a b c d : ℕ} {u : Shape} (s : FVec Ideal ⟨4, ![a, b, c, d]⟩ .f32) (init : FVec Ideal u .f32)
    (h : (⟨4, ![a, b, c, d]⟩ : Shape).ReducesTo [3] ⟨3, ![a, b, c]⟩) (hu : 0 < u.numel) (x : Fin a) (y : Fin b) (z : Fin c) :
    Host.reduce FloatOps.maximumf s init h hu (ix3 x y z) = Finset.univ.fold max (init (Shape.Idx.first hu)) fun k : Fin d => s (ix4 x y z k) := by
  rw [Host.reduce_eq_fold, h.fold_fiber_r4_a3]
  rfl

/-! ## The stages -/

/-- A projection of the input, cut into heads. -/
def proj (X : FVec Ideal S1x2048x1024 .bf16) (W : FVec Ideal S1024x4096 .bf16) : FVec Ideal S1x2048x32x128 .bf16 :=
  shapeCast _ (truncf .bf16 (Host.dotGeneral dot_S1x2048x1024_S1024x4096_S1x2048x4096_2_0_01_1_n_n none X W) bitsLt_bf16_f32) shapeCasts_S1x2048x4096_S1x2048x32x128

/-- The first and the second half of the keys, or of the values. -/
def half0 (K : FVec Ideal S1x2048x32x128 .bf16) : FVec Ideal S1x1024x32x128 .bf16 :=
  extractStridedSlice S1x1024x32x128 ![0, 0, 0, 0] K slices_S1x2048x32x128_S1x1024x32x128_0_0_0_0
def half1 (K : FVec Ideal S1x2048x32x128 .bf16) : FVec Ideal S1x1024x32x128 .bf16 :=
  extractStridedSlice S1x1024x32x128 ![0, 1024, 0, 0] K slices_S1x2048x32x128_S1x1024x32x128_0_1024_0_0

/-- The scores of all queries against half of the keys. -/
def scores (Q : FVec Ideal S1x2048x32x128 .bf16) (K : FVec Ideal S1x1024x32x128 .bf16) : FVec Ideal S1x32x2048x1024 .f32 :=
  mulf (extf .f32 (truncf .bf16 (Host.dotGeneral dot_S1x2048x32x128_S1x1024x32x128_S1x32x2048x1024_3_3_1_1_02_02 none Q K) bitsLt_bf16_f32) bitsLt_bf16_f32)
    (broadcastInDim S1x32x2048x1024 ![] bcast_S_S1x32x2048x1024 (constant S_ .f32 0x3DB504F3#32))

/-- A half's greatest scores, -/
def most (s : FVec Ideal S1x32x2048x1024 .f32) : FVec Ideal S1x32x2048 .f32 :=
  Host.reduce FloatOps.maximumf s (constant S_ .f32 0xFF800000#32) reducesTo_S1x32x2048x1024_S1x32x2048_d3 h_S_

/-- and the level raised to them. -/
def level (M : FVec Ideal S1x32x2048x1 .f32) (s : FVec Ideal S1x32x2048x1024 .f32) : FVec Ideal S1x32x2048x1 .f32 :=
  maximumf M (broadcastInDim S1x32x2048x1 ![0, 1, 2] bcast_S1x32x2048_S1x32x2048x1_0_1_2 (most s))

/-- The weights of a half at a level; -/
def weights (M : FVec Ideal S1x32x2048x1 .f32) (s : FVec Ideal S1x32x2048x1024 .f32) : FVec Ideal S1x32x2048x1024 .f32 :=
  Host.exp (subf s (broadcastInDim S1x32x2048x1024 ![0, 1, 2, 3] bcast_S1x32x2048x1_S1x32x2048x1024_0_1_2_3 M))

/-- the running sum of the weights; -/
def sums (l a : FVec Ideal S1x32x2048x1 .f32) (p : FVec Ideal S1x32x2048x1024 .f32) : FVec Ideal S1x32x2048x1 .f32 :=
  addf (mulf l a) (broadcastInDim S1x32x2048x1 ![0, 1, 2] bcast_S1x32x2048_S1x32x2048x1_0_1_2
    (Host.reduceAdd p (constant S_ .f32 0x00000000#32) reducesTo_S1x32x2048x1024_S1x32x2048_d3 h_S_))

/-- a column of one value per query spread over the head's width; -/
def spread (a : FVec Ideal S1x32x2048x1 .f32) : FVec Ideal S1x2048x32x128 .f32 :=
  broadcastInDim S1x2048x32x128 ![0, 1, 2, 3] bcast_S1x2048x32x1_S1x2048x32x128_0_1_2_3
    (transpose S1x2048x32x1 [0, 2, 1, 3] a transposes_S1x32x2048x1_S1x2048x32x1_0_2_1_3)

/-- the running weighted sum of the values. -/
def outs (o : FVec Ideal S1x2048x32x128 .f32) (a : FVec Ideal S1x32x2048x1 .f32) (V : FVec Ideal S1x1024x32x128 .bf16)
    (p : FVec Ideal S1x32x2048x1024 .f32) : FVec Ideal S1x2048x32x128 .f32 :=
  addf (mulf o (spread a)) (transpose S1x2048x32x128 [0, 3, 1, 2]
    (Host.dotGeneral dot_S1x1024x32x128_S1x32x2048x1024_S1x32x128x2048_1_3_3_2_02_01 none V p) transposes_S1x32x128x2048_S1x2048x32x128_0_3_1_2)

/-- The rescaling from one level to the next. -/
def rescale (M M' : FVec Ideal S1x32x2048x1 .f32) : FVec Ideal S1x32x2048x1 .f32 := Host.exp (subf M M')

def level0 : FVec Ideal S1x32x2048x1 .f32 := broadcastInDim S1x32x2048x1 ![] bcast_S_S1x32x2048x1 (constant S_ .f32 0xFF800000#32)
def sums0 : FVec Ideal S1x32x2048x1 .f32 := broadcastInDim S1x32x2048x1 ![] bcast_S_S1x32x2048x1 (constant S_ .f32 0x00000000#32)
def outs0 : FVec Ideal S1x2048x32x128 .f32 := broadcastInDim S1x2048x32x128 ![] bcast_S_S1x2048x32x128 (constant S_ .f32 0x00000000#32)

/-- The result from the heads' averages and the output weight. -/
def final (o : FVec Ideal S1x2048x32x128 .f32) (l : FVec Ideal S1x32x2048x1 .f32) (W : FVec Ideal S4096x1024 .bf16) : FVec Ideal S1x2048x1024 .f32 :=
  Host.dotGeneral dot_S1x2048x4096_S4096x1024_S1x2048x1024_2_0_01_1_n_n none
    (shapeCast _ (Host.divf o (spread l)) shapeCasts_S1x2048x32x128_S1x2048x4096) W

def s₁ (Q K : FVec Ideal S1x2048x32x128 .bf16) := scores Q (half0 K)
def s₂ (Q K : FVec Ideal S1x2048x32x128 .bf16) := scores Q (half1 K)
def M₁ (Q K : FVec Ideal S1x2048x32x128 .bf16) := level level0 (s₁ Q K)
def M₂ (Q K : FVec Ideal S1x2048x32x128 .bf16) := level (M₁ Q K) (s₂ Q K)
def l₁ (Q K : FVec Ideal S1x2048x32x128 .bf16) := sums sums0 (rescale level0 (M₁ Q K)) (weights (M₁ Q K) (s₁ Q K))
def l₂ (Q K : FVec Ideal S1x2048x32x128 .bf16) := sums (l₁ Q K) (rescale (M₁ Q K) (M₂ Q K)) (weights (M₂ Q K) (s₂ Q K))
def o₁ (Q K V : FVec Ideal S1x2048x32x128 .bf16) := outs outs0 (rescale level0 (M₁ Q K)) (half0 V) (weights (M₁ Q K) (s₁ Q K))
def o₂ (Q K V : FVec Ideal S1x2048x32x128 .bf16) := outs (o₁ Q K V) (rescale (M₁ Q K) (M₂ Q K)) (half1 V) (weights (M₂ Q K) (s₂ Q K))

/-- The reference's result is the stages composed. -/
theorem result_eq (m : (ℓ : Loc nD τ sig) → Buf (Elt Ideal) ℓ) (c : Dev nD) :
    Cert.ReferenceIdeal.Value.res_main_v66 m c
      = final (o₂ (proj (m ((c.tc : Thread nD τ).loc main_arg0)) (m ((c.tc : Thread nD τ).loc main_arg1))) (proj (m ((c.tc : Thread nD τ).loc main_arg0)) (m ((c.tc : Thread nD τ).loc main_arg2)))
            (proj (m ((c.tc : Thread nD τ).loc main_arg0)) (m ((c.tc : Thread nD τ).loc main_arg3))))
          (l₂ (proj (m ((c.tc : Thread nD τ).loc main_arg0)) (m ((c.tc : Thread nD τ).loc main_arg1))) (proj (m ((c.tc : Thread nD τ).loc main_arg0)) (m ((c.tc : Thread nD τ).loc main_arg2))))
          (m ((c.tc : Thread nD τ).loc main_arg4)) := rfl

/-! ## The stages at an index -/

/-- A projection: the product of the input and the weight, column `128 h + e` at place `e` of head `h`. -/
theorem proj_apply (X : FVec Ideal S1x2048x1024 .bf16) (W : FVec Ideal S1024x4096 .bf16) (i : Fin 2048) (h : Fin 32) (e : Fin 128) :
    proj X W (ix4 0 i h e) = ∑ x : Fin 1024, X (ix3 0 i x) * W (ix2 x (col h e)) := by
  pointwise [proj]

/-- The first half is rows 0 to 1023, -/
theorem half0_apply (K : FVec Ideal S1x2048x32x128 .bf16) (i : Fin 1024) (h : Fin 32) (e : Fin 128) :
    half0 K (ix4 0 i h e) = K (ix4 0 ⟨i.val, by omega⟩ h e) := by
  pointwise [half0]

/-- the second rows 1024 to 2047. -/
theorem half1_apply (K : FVec Ideal S1x2048x32x128 .bf16) (i : Fin 1024) (h : Fin 32) (e : Fin 128) :
    half1 K (ix4 0 i h e) = K (ix4 0 ⟨1024 + i.val, by omega⟩ h e) := by
  pointwise [half1]

/-- The scores are the scaled products of query and key. -/
theorem scores_apply (Q : FVec Ideal S1x2048x32x128 .bf16) (K : FVec Ideal S1x1024x32x128 .bf16) (h : Fin 32) (i : Fin 2048) (j : Fin 1024) :
    scores Q K (ix4 0 h i j) = (∑ x : Fin 128, Q (ix4 0 i h x) * K (ix4 0 j h x)) * scale := by
  pointwise [scores, scale]

/-- A half's greatest score. -/
theorem most_apply (s : FVec Ideal S1x32x2048x1024 .f32) (h : Fin 32) (i : Fin 2048) :
    most s (ix3 0 h i) = top fun k : Fin 1024 => s (ix4 0 h i k) := by
  refine (fold_last s _ reducesTo_S1x32x2048x1024_S1x32x2048_d3 h_S_ 0 h i).trans ?_
  rw [show constant (F := Ideal) S_ .f32 0xFF800000#32 (Shape.Idx.first h_S_) = ⊥ from neg_inf]
  rfl

/-- The level after a half. -/
theorem level_apply (M : FVec Ideal S1x32x2048x1 .f32) (s : FVec Ideal S1x32x2048x1024 .f32) (h : Fin 32) (i : Fin 2048) :
    level M s (ix4 0 h i 0) = max (M (ix4 0 h i 0)) (top fun k : Fin 1024 => s (ix4 0 h i k)) := by
  rw [← most_apply]
  generalize hy : most s = y
  pointwise [level, hy]

/-- A weight. -/
theorem weights_apply (M : FVec Ideal S1x32x2048x1 .f32) (s : FVec Ideal S1x32x2048x1024 .f32) (h : Fin 32) (i : Fin 2048) (j : Fin 1024) :
    weights M s (ix4 0 h i j) = Ideal.exp (s (ix4 0 h i j) - M (ix4 0 h i 0)) := by
  pointwise [weights]

/-- The running sum after a half. -/
theorem sums_apply (l a : FVec Ideal S1x32x2048x1 .f32) (p : FVec Ideal S1x32x2048x1024 .f32) (h : Fin 32) (i : Fin 2048) :
    sums l a p (ix4 0 h i 0) = l (ix4 0 h i 0) * a (ix4 0 h i 0) + ∑ x : Fin 1024, p (ix4 0 h i x) := by
  pointwise [sums]

/-- The running weighted sum after a half. -/
theorem outs_apply (o : FVec Ideal S1x2048x32x128 .f32) (a : FVec Ideal S1x32x2048x1 .f32) (V : FVec Ideal S1x1024x32x128 .bf16)
    (p : FVec Ideal S1x32x2048x1024 .f32) (i : Fin 2048) (h : Fin 32) (e : Fin 128) :
    outs o a V p (ix4 0 i h e) = o (ix4 0 i h e) * a (ix4 0 h i 0) + ∑ x : Fin 1024, V (ix4 0 x h e) * p (ix4 0 h i x) := by
  pointwise [outs, spread]

/-- The rescaling. -/
theorem rescale_apply (M M' : FVec Ideal S1x32x2048x1 .f32) (h : Fin 32) (i : Fin 2048) :
    rescale M M' (ix4 0 h i 0) = Ideal.exp (M (ix4 0 h i 0) - M' (ix4 0 h i 0)) := by
  pointwise [rescale]

/-- The level starts at `-∞`, -/
theorem level0_apply (h : Fin 32) (i : Fin 2048) : level0 (ix4 0 h i 0) = ⊥ := neg_inf
/-- the running sum at zero, -/
theorem sums0_apply (h : Fin 32) (i : Fin 2048) : sums0 (ix4 0 h i 0) = 0 := by
  pointwise [sums0]
/-- the running weighted sum at zero. -/
theorem outs0_apply (i : Fin 2048) (h : Fin 32) (e : Fin 128) : outs0 (ix4 0 i h e) = 0 := by
  pointwise [outs0]

/-- The result: the averages of all heads and places against the output weight. -/
theorem final_apply (o : FVec Ideal S1x2048x32x128 .f32) (l : FVec Ideal S1x32x2048x1 .f32) (W : FVec Ideal S4096x1024 .bf16) (i : Fin 2048) (n : Fin 1024) :
    final o l W (ix3 0 i n) = ∑ x : Fin 4096, Ideal.div (o (ix4 0 i (headOf x) (place x))) (l (ix4 0 (headOf x) i 0)) * W (ix2 x n) := by
  pointwise [final, spread]

/-! ## A head of a query -/

section Head

variable (Q K V : FVec Ideal S1x2048x32x128 .bf16) (i : Fin 2048) (h : Fin 32) (e : Fin 128)

/-- The scores of query `i` under head `h`. -/
abbrev sc : Fin 2048 → EReal := score (fun d => Q (ix4 0 i h d)) (fun j d => K (ix4 0 j h d))

/-- The scores of the first half -/
theorem s₁_apply (j : Fin 1024) : s₁ Q K (ix4 0 h i j) = lo (sc Q K i h) j := by
  unfold s₁; rw [scores_apply]; simp only [half0_apply]; rfl
/-- and of the second; -/
theorem s₂_apply (j : Fin 1024) : s₂ Q K (ix4 0 h i j) = hi (sc Q K i h) j := by
  unfold s₂; rw [scores_apply]; simp only [half1_apply]; rfl
/-- the level after the first half is the first half's greatest score, -/
theorem M₁_apply : M₁ Q K (ix4 0 h i 0) = top (lo (sc Q K i h)) := by
  unfold M₁; rw [level_apply, level0_apply]; simp only [s₁_apply]; exact max_bot_left _
/-- after the second the greater of the two; -/
theorem M₂_apply : M₂ Q K (ix4 0 h i 0) = max (top (lo (sc Q K i h))) (top (hi (sc Q K i h))) := by
  unfold M₂; rw [level_apply, M₁_apply]; simp only [s₂_apply]
/-- the first half's sum of weights -/
theorem l₁_apply : l₁ Q K (ix4 0 h i 0) = total (top (lo (sc Q K i h))) (lo (sc Q K i h)) := by
  unfold l₁; rw [sums_apply, sums0_apply]; simp only [weights_apply, s₁_apply, M₁_apply, zero_mul, zero_add]; rfl
/-- and the whole sum; -/
theorem l₂_apply : l₂ Q K (ix4 0 h i 0) = total (top (sc Q K i h)) (sc Q K i h) := by
  unfold l₂; rw [sums_apply, rescale_apply]; simp only [weights_apply, s₂_apply, M₁_apply, M₂_apply, l₁_apply]; exact total_halves _
/-- the first half's weighted sum -/
theorem o₁_apply : o₁ Q K V (ix4 0 i h e) = weighted (top (lo (sc Q K i h))) (lo (sc Q K i h)) (lo fun j => V (ix4 0 j h e)) := by
  unfold o₁; rw [outs_apply, outs0_apply]; simp only [weights_apply, s₁_apply, M₁_apply, half0_apply, zero_mul, zero_add]
  exact Finset.sum_congr rfl fun _ _ => mul_comm _ _
/-- and the whole weighted sum. -/
theorem o₂_apply : o₂ Q K V (ix4 0 i h e) = weighted (top (sc Q K i h)) (sc Q K i h) (fun j => V (ix4 0 j h e)) := by
  unfold o₂; rw [outs_apply, rescale_apply]; simp only [weights_apply, s₂_apply, M₁_apply, M₂_apply, o₁_apply, half1_apply]
  refine Eq.trans (congrArg _ (Finset.sum_congr rfl fun _ _ => mul_comm _ _)) (weighted_halves _ _)

end Head

/-- The reference's result at an index: the heads' softmax averages through the output weight. -/
theorem result_apply (X : FVec Ideal S1x2048x1024 .bf16) (Wq Wk Wv : FVec Ideal S1024x4096 .bf16) (Wo : FVec Ideal S4096x1024 .bf16)
    (i : Fin 2048) (n : Fin 1024) :
    final (o₂ (proj X Wq) (proj X Wk) (proj X Wv)) (l₂ (proj X Wq) (proj X Wk)) Wo (ix3 0 i n)
      = output (fun i k => X (ix3 0 i k)) (fun k t => Wq (ix2 k t)) (fun k t => Wk (ix2 k t)) (fun k t => Wv (ix2 k t)) (fun t n => Wo (ix2 t n)) i n := by
  rw [final_apply]
  unfold output
  refine Finset.sum_congr rfl fun t _ => ?_
  rw [o₂_apply, l₂_apply]
  simp only [sc, proj_apply]
  rfl

end Cert.ReferenceIdeal.Attention

end
-- ==== Proof.KernelIdeal.Protocol.lean ====
/- The ring's protocol. Each device has a barrier cell, and for each of the six copies a send cell and a receive cell. A
   device's barrier is signalled by both neighbours; the right one hands over, with its signal, the six slots that are
   copied into. A send cell gives back half of the source slot, a receive cell the slot landed in. Every cell runs one
   round. -/
module

public import proofs.«01_k».proof.Proof.KernelIdeal.Contents

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The ring's rounds within the machine's ghost state, beside the pipeline's. -/
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The copies and their cells -/

/-- Copy `k`'s source and destination buffers and slots. -/
def srcB : Fin 6 → Scr := fun | 0 => xgM | 1 => xgM | 2 => xgM | 3 => rsM | 4 => rsM | 5 => rsM
def srcJ : Fin 6 → Fin 4 := fun | 0 => 0 | 1 => 1 | 2 => 2 | 3 => 3 | 4 => 0 | 5 => 1
def dstJ : Fin 6 → Fin 4 := fun | 0 => 1 | 1 => 2 | 2 => 3 | 3 => 0 | 4 => 1 | 5 => 2

/-- The twelve transfer semaphores: copy `k` sends on `k`, receives on `6 + k`. -/
def xsem : Fin 12 → DmaSem sig := fun
  | 0 => 6 | 1 => 7 | 2 => 8 | 3 => 12 | 4 => 13 | 5 => 14
  | 6 => 9 | 7 => 10 | 8 => 11 | 9 => 15 | 10 => 16 | 11 => 17
def sendS (k : Fin 6) : DmaSem sig := xsem ⟨k.val, Nat.lt_trans k.isLt (by decide)⟩
def recvS (k : Fin 6) : DmaSem sig := xsem ⟨6 + k.val, Nat.add_lt_add_left k.isLt 6⟩
/-- The barrier semaphore. -/
abbrev barS : Sem sig := (SemArray.scalar (sig.barrier 0 rfl) : Sems sig S_).sem

abbrev barCell (c : Dev nD) : GSem nD τ sig := ((c : Thread nD τ), .reg barS)
abbrev sendCell (k : Fin 6) (c : Dev nD) : GSem nD τ sig := ((c : Thread nD τ), .dma (sendS k))
abbrev recvCell (k : Fin 6) (c : Dev nD) : GSem nD τ sig := ((c : Thread nD τ), .dma (recvS k))

/-- Which copy a transfer semaphore belongs to, -/
def copyOf (q : DmaSem sig) : Fin 6 :=
  if q = 6 ∨ q = 9 then 0 else if q = 7 ∨ q = 10 then 1 else if q = 8 ∨ q = 11 then 2
  else if q = 12 ∨ q = 15 then 3 else if q = 13 ∨ q = 16 then 4 else 5
/-- and whether it is the receiving one. -/
def isRecv (q : DmaSem sig) : Bool := q = 9 ∨ q = 10 ∨ q = 11 ∨ q = 15 ∨ q = 16 ∨ q = 17

/-- A sending semaphore belongs to its copy, -/
theorem copyOf_send (k : Fin 6) : copyOf (sendS k) = k := by revert k; decide
/-- a receiving one to its. -/
theorem copyOf_recv (k : Fin 6) : copyOf (recvS k) = k := by revert k; decide
/-- The sending one is not receiving, -/
theorem isRecv_send (k : Fin 6) : isRecv (sendS k) = false := by revert k; decide
/-- the receiving one is. -/
theorem isRecv_recv (k : Fin 6) : isRecv (recvS k) = true := by revert k; decide

/-- What one copy credits. -/
abbrev N : ℕ := (slab xgM 0).view.dmaCredit
/-- A copy's credit is positive. -/
theorem N_pos : 0 < N := View.dmaCredit_pos _ (by decide)
/-- Every source counts one credit; -/
theorem src_credit (k : Fin 6) : (slab (srcB k) (srcJ k)).view.dmaCredit = N := by fin_cases k <;> rfl
/-- every destination does. -/
theorem dst_credit (k : Fin 6) : (slab (srcB k) (dstJ k)).view.dmaCredit = N := by fin_cases k <;> rfl

/-! ## The schedule -/

/-- The six slots of device `c` that are copied into, at any contents. -/
def landing (c : Dev nD) : sProp 𝕄 := bigSep Finset.univ fun k : Fin 6 => iprop(∃ X, held (srcB k) (dstJ k) c fullShare X)
/-- What a send cell gives back: half the source slot; -/
def sendPay (k : Fin 6) (c : Dev nD) : sProp 𝕄 := held (srcB k) (srcJ k) c fullShare.left (snd m k c)
/-- what a receive cell gives: the destination slot, holding what the left neighbour sent. -/
def recvPay (k : Fin 6) (c : Dev nD) : sProp 𝕄 := held (srcB k) (dstJ k) c fullShare (snd m k (prv c))

/-- One round, round 0: a barrier cell has the duties `false` (of the left neighbour, handing nothing) and `true` (of the
    right one, handing its slots), one unit each; every other cell has the duty `false` of one copy's credit. -/
def ringRd : Rounds.Schedule (GSem nD τ sig) Bool 𝕄 where
  duties g r := if r = 0 then (match g.2 with | .reg _ => Finset.univ | .dma _ => {false}) else ∅
  unitless _ := False
  amount g _ _ := match g.2 with | .reg _ => 1 | .dma _ => N
  payload g _ d := match g.2 with
    | .reg _ => if d then landing (nxt g.1.1) else iprop(emp)
    | .dma q => if isRecv q then recvPay m (copyOf q) g.1.1 else sendPay m (copyOf q) g.1.1
  amount_pos g _ _ _ := by
    rcases g with ⟨t, q | q⟩
    · exact Nat.one_pos
    · exact N_pos

instance landing_storable (c : Dev nD) : BI.Storable (upEmb : UEmb _ 𝕄) (landing (F := F) c) := by unfold landing; infer_instance

instance payload_storable (g : GSem nD τ sig) (r : ℕ) (d : Bool) : BI.Storable (upEmb : UEmb _ 𝕄) ((ringRd m).payload g r d) := by
  rcases g with ⟨t, q | q⟩
  · show BI.Storable upEmb (if d then landing (nxt t.1) else iprop(emp))
    split <;> infer_instance
  · show BI.Storable upEmb (if isRecv q then recvPay m (copyOf q) t.1 else sendPay m (copyOf q) t.1)
    unfold recvPay sendPay
    split <;> infer_instance

section Sched
variable (c : Dev nD) (k : Fin 6)

/-- A barrier's duties are both; -/
theorem duties_bar : (ringRd m).duties (barCell c) 0 = Finset.univ := rfl
/-- a transfer cell's is one; -/
theorem duties_dma (q : DmaSem sig) : (ringRd m).duties ((c : Thread nD τ), .dma q) 0 = {false} := rfl
/-- after the first round there is none. -/
theorem duties_later (g : GSem nD τ sig) : ∀ r, 1 ≤ r → (ringRd m).duties g r = ∅ := fun r hr => if_neg (by omega)
/-- A barrier duty is one unit, -/
theorem amount_bar (d : Bool) : (ringRd m).amount (barCell c) 0 d = 1 := rfl
/-- a transfer duty a copy's credit. -/
theorem amount_dma (q : DmaSem sig) (d : Bool) : (ringRd m).amount ((c : Thread nD τ), .dma q) 0 d = N := rfl
/-- A barrier expects two units, -/
theorem expect_bar : (ringRd m).expect (barCell c) 0 = 2 := by
  unfold Schedule.expect Schedule.amountOf
  rw [duties_bar, Finset.sum_congr rfl fun d _ => amount_bar m c d]; rfl
/-- a transfer cell a copy's credit. -/
theorem expect_dma (q : DmaSem sig) : (ringRd m).expect ((c : Thread nD τ), .dma q) 0 = N := by
  unfold Schedule.expect Schedule.amountOf; rw [duties_dma, Finset.sum_singleton, amount_dma]
/-- The right neighbour's barrier signal hands over its slots, -/
theorem payload_bar_true : (ringRd m).payload (barCell c) 0 true = landing (nxt c) := rfl
/-- the left one's nothing; -/
theorem payload_bar_false : (ringRd m).payload (barCell c) 0 false = iprop(emp) := rfl
/-- a send cell gives back half the source, -/
theorem payload_send (d : Bool) : (ringRd m).payload (sendCell k c) 0 d = sendPay m k c := by
  show (if isRecv (sendS k) then recvPay m (copyOf (sendS k)) c else sendPay m (copyOf (sendS k)) c) = _
  rw [isRecv_send, copyOf_send]; rfl
/-- a receive cell gives the destination. -/
theorem payload_recv (d : Bool) : (ringRd m).payload (recvCell k c) 0 d = recvPay m k c := by
  show (if isRecv (recvS k) then recvPay m (copyOf (recvS k)) c else sendPay m (copyOf (recvS k)) c) = _
  rw [isRecv_recv, copyOf_recv]; rfl

/-- What the whole round of a barrier cell hands over, -/
theorem rest_bar : bigSep ((ringRd m).duties (barCell c) 0 \ ∅) (fun d => (ringRd m).payload (barCell c) 0 d) = iprop(emp ∗ landing (nxt c)) := by
  rw [Finset.sdiff_empty, duties_bar, bigSep_univ_eq_bigSepL [false, true] (by decide) (by decide), bigSepL_cons_cons, bigSepL_singleton,
    payload_bar_false, payload_bar_true]
  rfl
/-- of a send cell, -/
theorem rest_send : bigSep ((ringRd m).duties (sendCell k c) 0 \ ∅) (fun d => (ringRd m).payload (sendCell k c) 0 d) = sendPay m k c := by
  rw [Finset.sdiff_empty, duties_dma, bigSep_singleton, payload_send]
/-- and of a receive cell. -/
theorem rest_recv : bigSep ((ringRd m).duties (recvCell k c) 0 \ ∅) (fun d => (ringRd m).payload (recvCell k c) 0 d) = recvPay m k c := by
  rw [Finset.sdiff_empty, duties_dma, bigSep_singleton, payload_recv]

end Sched

/-! ## What is owed, and the levels -/

/-- What device `c` still owes its right neighbour's receive cells when the copies below `n` are started. -/
def OR (c : Dev nD) (n : ℕ) : CellTallies nD τ sig Unit := ∑ k ∈ Finset.univ.filter (fun k : Fin 6 => n ≤ k.val), tallyAt (recvCell k (nxt c)) () N
/-- At launch: those, and a unit to either neighbour's barrier. -/
def O₁ (c : Dev nD) : CellTallies nD τ sig Unit := OR c 0 + tallyAt (barCell (nxt c)) () 1
def O₀ (c : Dev nD) : CellTallies nD τ sig Unit := O₁ c + tallyAt (barCell (prv c)) () 1

/-- Starting copy `k` pays its receive cell. -/
theorem OR_step (c : Dev nD) (k : Fin 6) : OR c k.val = OR c (k.val + 1) + tallyAt (recvCell k (nxt c)) () N := by
  unfold OR
  rw [show (Finset.univ.filter fun j : Fin 6 => k.val ≤ j.val) = insert k (Finset.univ.filter fun j : Fin 6 => k.val + 1 ≤ j.val) from by
    revert k; decide, Finset.sum_insert (by simp), add_comm]
/-- After the six copies nothing is owed. -/
theorem OR_end (c : Dev nD) : OR c 6 = 0 := by
  unfold OR; rw [show (Finset.univ.filter fun j : Fin 6 => 6 ≤ j.val) = ∅ from by decide, Finset.sum_empty]

/-- What is owed a cell, as a sum over the copies to come. -/
theorem OR_apply (c : Dev nD) (n : ℕ) (g : GSem nD τ sig) (u : Unit) :
    OR c n g u = ∑ k ∈ Finset.univ.filter (fun k : Fin 6 => n ≤ k.val), if g = recvCell k (nxt c) ∧ u = () then N else 0 := by
  unfold OR
  rw [Finset.sum_apply, Finsupp.finset_sum_apply]
  exact Finset.sum_congr rfl fun k _ => tallyAt_apply _ _ _ _ _

/-- Only the right neighbour's receive cells of copies to come are owed. -/
theorem OR_pos {c : Dev nD} {n : ℕ} {g : GSem nD τ sig} {u : Unit} (h : 0 < OR c n g u) : ∃ k : Fin 6, n ≤ k.val ∧ g = recvCell k (nxt c) := by
  rw [OR_apply] at h
  obtain ⟨k, hk, hp⟩ := Finset.exists_ne_zero_of_sum_ne_zero h.ne'
  refine ⟨k, (Finset.mem_filter.mp hk).2, ?_⟩
  by_contra hn
  exact hp (if_neg fun h' => hn h'.1)

/-- At launch only those and the neighbours' barriers are owed. -/
theorem O₀_pos {c : Dev nD} {g : GSem nD τ sig} {u : Unit} (h : 0 < O₀ c g u) :
    (∃ k : Fin 6, g = recvCell k (nxt c)) ∨ g = barCell (prv c) ∨ g = barCell (nxt c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.2 h'.1), if_neg (fun h' => hn.2.1 h'.1)] at h
  obtain ⟨k, -, hk⟩ := OR_pos (c := c) (n := 0) (g := g) (u := u) (by simpa using h)
  exact hn.1 ⟨k, hk⟩

def L (g : GSem nD τ sig) : Finset Unit := if g.1.2 = .tc then {()} else ∅
/-- The barrier at 1, the receive cell of copy `k` at `2 + k`, everything else at 0. -/
def lv (g : GSem nD τ sig) (_ : Unit) : ℕ := match g.2 with
  | .reg _ => 1
  | .dma q => if isRecv q then 2 + (copyOf q).val else 0

/-- Off the tensor cores no cell has a level; -/
theorem L_of_ne (g : GSem nD τ sig) (h : g.1.2 ≠ .tc) : L g = ∅ := if_neg h
/-- on them each has one. -/
theorem L_tc (c : Dev nD) (sm : SemLoc sig) : L ((c : Thread nD τ), sm) = {()} := if_pos rfl
/-- A receive cell's level is two above its copy. -/
theorem lv_recv (k : Fin 6) (c : Dev nD) (u : Unit) : lv (recvCell k c) u = 2 + k.val := by
  show (if isRecv (recvS k) then 2 + (copyOf (recvS k)).val else 0) = _
  rw [isRecv_recv, copyOf_recv]; rfl

/-- A semaphore below level `2 + n` may be waited for while the copies from `n` on are owed. -/
theorem mayWait_OR (c : Dev nD) (sm : SemLoc sig) (n : ℕ) (h : lv ((c : Thread nD τ), sm) () < 2 + n) :
    (levAts L lv : sProp 𝕄) ⊢ MayWait (c : Thread nD τ) sm () (OR c n) :=
  MayOwe.of_cut (L := L) (lev := lv) (1 + n) (fun p hp => by rw [Finset.mem_singleton.mp hp, L_tc]; exact Finset.mem_singleton_self _)
    (fun g u hg => by obtain ⟨k, -, rfl⟩ := OR_pos hg; exact Finset.mem_singleton_self _)
    (fun p hp => by rw [Finset.mem_singleton.mp hp]; show lv ((c : Thread nD τ), sm) () ≤ 1 + n; omega)
    (fun g u hg => by obtain ⟨k, hk, rfl⟩ := OR_pos hg; rw [lv_recv]; omega)

/-- The staging semaphores may be waited for throughout. -/
theorem mayWait_stage (c : Dev nD) (q : DmaSem sig) (hq : isRecv q = false) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl | rfl <;> exact Finset.mem_singleton_self _)
      (fun p hp => by
        rw [Finset.mem_singleton.mp hp]
        show (if isRecv q then 2 + (copyOf q).val else 0) ≤ 0
        rw [hq]; exact le_refl 0)
      (fun g u hg => by
        rcases O₀_pos hg with ⟨k, rfl⟩ | rfl | rfl
        · rw [lv_recv]; omega
        · exact Nat.one_pos
        · exact Nat.one_pos)
  · rw [MayWait_zero]; iintro -; iempintro

end Cert.KernelIdeal.Ring

end
-- ==== Proof.KernelIdeal.Steps.lean ====
/- The effects of the ring's body, each as one rule over the protocol: the two signals and the wait of the barrier, a copy's
   start, the waits at its two ends, and loads and stores of buffers held by `owns`. -/
module

public import proofs.«01_k».proof.Proof.KernelIdeal.Protocol

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells as one family -/

/-- A device's thirteen cells: its barrier, then the twelve transfer semaphores. -/
def csem : Fin 13 → SemLoc sig := fun
  | ⟨0, _⟩ => .reg barS
  | ⟨j + 1, h⟩ => .dma (xsem ⟨j, Nat.lt_of_succ_lt_succ h⟩)
abbrev kcell (ck : Dev nD × Fin 13) : GSem nD τ sig := ((ck.1 : Thread nD τ), csem ck.2)
def sIx (k : Fin 6) : Fin 13 := ⟨k.val + 1, by have := k.isLt; omega⟩
def rIx (k : Fin 6) : Fin 13 := ⟨(6 + k.val) + 1, by have := k.isLt; omega⟩

/-- Every cell's invariant, under the names `K`, and that its round 0 is reached. -/
def records (K : Dev nD × Fin 13 → ℕ) : sProp 𝕄 :=
  iprop((bigSep Finset.univ fun ck : Dev nD × Fin 13 => cellInv ER (ringRd m) (K ck) (kcell ck))
    ∗ bigSep Finset.univ fun ck : Dev nD × Fin 13 => reached ER (kcell ck) 0)

instance records_persistent (K : Dev nD × Fin 13 → ℕ) : BI.Persistent (records m K) := by unfold records; infer_instance

section Records
variable (K : Dev nD × Fin 13 → ℕ) (c : Dev nD) (k : Fin 6)

/-- The records hold every cell's invariant -/
theorem rec_inv (ck : Dev nD × Fin 13) : records m K ⊢ (cellInv ER (ringRd m) (K ck) (kcell ck) : sProp 𝕄) := by
  have h : (bigSep Finset.univ fun ck : Dev nD × Fin 13 => cellInv ER (ringRd m) (K ck) (kcell ck) : sProp 𝕄) ⊢ cellInv ER (ringRd m) (K ck) (kcell ck) :=
    bigSep_elim (Finset.mem_univ ck)
  unfold records
  iintro ⟨H, -⟩
  iapply h
  iexact H
/-- and that its first round is reached; -/
theorem rec_reached (ck : Dev nD × Fin 13) : records m K ⊢ (reached ER (kcell ck) 0 : sProp 𝕄) := by
  have h : (bigSep Finset.univ fun ck : Dev nD × Fin 13 => reached ER (kcell ck) 0 : sProp 𝕄) ⊢ reached ER (kcell ck) 0 :=
    bigSep_elim (Finset.mem_univ ck)
  unfold records
  iintro ⟨-, H⟩
  iapply h
  iexact H

/-- the invariant of a barrier, -/
theorem inv_bar : records m K ⊢ (cellInv ER (ringRd m) (K (c, 0)) (barCell c) : sProp 𝕄) := rec_inv m K (c, 0)
/-- of a send cell, -/
theorem inv_send : records m K ⊢ (cellInv ER (ringRd m) (K (c, sIx k)) (sendCell k c) : sProp 𝕄) := rec_inv m K (c, sIx k)
/-- of a receive cell; -/
theorem inv_recv : records m K ⊢ (cellInv ER (ringRd m) (K (c, rIx k)) (recvCell k c) : sProp 𝕄) := rec_inv m K (c, rIx k)
/-- the first round reached of a barrier, -/
theorem reached_bar : records m K ⊢ (reached ER (barCell c) 0 : sProp 𝕄) := rec_reached m K (c, 0)
/-- of a send cell, -/
theorem reached_send : records m K ⊢ (reached ER (sendCell k c) 0 : sProp 𝕄) := rec_reached m K (c, sIx k)
/-- of a receive cell. -/
theorem reached_recv : records m K ⊢ (reached ER (recvCell k c) 0 : sProp 𝕄) := rec_reached m K (c, rIx k)
end Records

/-! ## What a device holds of the protocol -/

/-- The obligations `O`, whatever has been waited for. -/
def ow (c : Dev nD) (O : CellTallies nD τ sig Unit) : sProp 𝕄 := iprop(∃ W, owes (c : Thread nD τ) O W)

/-- What copy `k` is started and waited for with. -/
def ready (k : Fin 6) (c : Dev nD) : sProp 𝕄 :=
  iprop(dutyTok ER (sendCell k c) 0 false ∗ dutyTok ER (recvCell k (nxt c)) 0 false ∗ atPos ER (sendCell k c) 0 ∅ 0 ∗ atPos ER (recvCell k c) 0 ∅ 0
    ∗ cred (tallyAt (recvCell k c) () N))
/-- While its source is being read: the right to wait for that; -/
def sending (k : Fin 6) (c : Dev nD) : sProp 𝕄 := iprop(atPos ER (sendCell k c) 0 ∅ 0 ∗ cred (tallyAt (sendCell k c) () N))
/-- and the right to wait for the arrival from the left. -/
def arriving (k : Fin 6) (c : Dev nD) : sProp 𝕄 := iprop(atPos ER (recvCell k c) 0 ∅ 0 ∗ cred (tallyAt (recvCell k c) () N))
/-- The barrier's two duties that the device pays, its own position and credit. -/
def gate (c : Dev nD) : sProp 𝕄 :=
  iprop(dutyTok ER (barCell (prv c)) 0 true ∗ dutyTok ER (barCell (nxt c)) 0 false ∗ atPos ER (barCell c) 0 ∅ 0 ∗ cred (tallyAt (barCell c) () 2))

/-! ## The rules -/

section Rules
variable (K : Dev nD × Fin 13 → ℕ) (c : Dev nD)

/-- The signals and the wait of the barrier: the device's landing slots go to the left, the right neighbour's arrive. -/
theorem wp_gate (a b : Dev nD) (ha : a = prv c) (hb : b = nxt c) {α : Type} {Q : α → sProp 𝕄} {k : PUnit → Prog (TpuEff nD τ sig (Elt F) Λ₀ .tc) α} :
    iprop(records m K ∗ levAts L lv ∗ gate c ∗ landing c ∗ ow c (O₀ c))
      ⊢ iprop(((landing (nxt c) ∗ semVal (barCell c) 0 ∗ ow c (OR c 0)) -∗ wp frame (wpE (defs₀ (F := F)) 𝒱₀ (c : Thread nD τ) none) Set.univ (k ⟨⟩) Q)
        -∗ wp frame (wpE (defs₀ (F := F)) 𝒱₀ (c : Thread nD τ) none) Set.univ
          (.op (.semSignal (a : Thread nD τ) barS 1) fun _ => .op (.semSignal (b : Thread nD τ) barS 1) fun _ => .op (.semWait barS 2) k) Q) := by
  subst ha hb
  unfold gate ow
  iintro ⟨#HR, #Hlev, ⟨Htp, Htn, Hat, Hc⟩, Hland, ⟨%W, HO⟩⟩ Hk
  iapply (Rounds.wp_signal 𝒱₀ ER (ringRd m) (c : Thread nD τ) none (dst := (prv c : Thread nD τ)) (κ := K (prv c, 0))
      (d := true) (by rw [duties_bar]; exact Finset.mem_univ _) (amount_bar m (prv c) true) () (O₁ c) rfl) $$ [HO Htp Hland]
  · isplitr; · iapply (inv_bar m K (prv c)); iexact HR
    isplitl [HO]; · iexact HO
    isplitl [Htp]; · iexact Htp
    isplitl [Hland]; · rw [payload_bar_true, nxt_prv]; iexact Hland
    iapply (reached_bar m K (prv c)); iexact HR
  iintro HO
  iapply (Rounds.wp_signal 𝒱₀ ER (ringRd m) (c : Thread nD τ) none (dst := (nxt c : Thread nD τ)) (κ := K (nxt c, 0))
      (d := false) (by rw [duties_bar]; exact Finset.mem_univ _) (amount_bar m (nxt c) false) () (OR c 0) rfl) $$ [HO Htn]
  · isplitr; · iapply (inv_bar m K (nxt c)); iexact HR
    isplitl [HO]; · iexact HO
    isplitl [Htn]; · iexact Htn
    isplitr; · rw [payload_bar_false]; iempintro
    iapply (reached_bar m K (nxt c)); iexact HR
  iintro HO
  iapply (Rounds.wp_wait_rest_token 𝒱₀ ER (ringRd m) (c : Thread nD τ) none (κ := K (c, 0))
      (wpE_semWait_eq 𝒱₀ (c : Thread nD τ) none Set.univ) (Set.mem_univ _) () (O := OR c 0) (W := W) (R := 0) (m := 0) (T := ∅)
      (by rw [expect_bar])) $$ [Hc HO Hat]
  · isplitr; · iapply (inv_bar m K c); iexact HR
    isplitl [Hc]; · iexact Hc
    isplitl [HO]; · iexact HO
    isplitr; · iapply (mayWait_OR c (.reg barS) 0 (by show 1 < 2 + 0; decide)); iexact Hlev
    iexact Hat
  iintro ⟨HO, Hat, -, Hpay⟩
  ihave Hp := (Entails.of_eq (rest_bar m c)) $$ Hpay
  icases Hp with ⟨-, Hland⟩
  imod (Rounds.cell_close ER (ringRd m) (Set.mem_univ (K (c, 0))) (fun h => h) (R := 0 + 1) (duties_later m (barCell c))) $$ [Hat] with Hz
  · isplitr; · iapply (inv_bar m K c); iexact HR
    iexact Hat
  iapply Hk
  isplitl [Hland]; · iexact Hland
  isplitl [Hz]; · iexact Hz
  iexists _; iexact HO

/-- A copy's start: half the source slot and the destination go; the other half stays readable. -/
theorem wp_copy (j : Fin 6) (n : Dev nD) (hn : n = nxt c) (M : Scr) (i : Fin 4) (X : Blk F) (hM : M = srcB j) (hi : i = srcJ j) (hX : X = snd m j c) (a b : ℕ) (ha : a = j.val) (hb : b = j.val + 1)
    {hsc : (slab (srcB j) (dstJ j) : Memref sig (Dev.tc n : Thread nD τ).2.kind .vmem S512x1024 .bf16).view.ref.isScScratch = false}
    {hsrc : (slab (srcB j) (srcJ j)).view.WordExact} {hdst : (slab (srcB j) (dstJ j)).view.WordExact}
    {hsem : DmaTarget.Typed .vmem (.dma (recvS j))
      (.remote (Dev.tc n : Thread nD τ) (slab (srcB j) (dstJ j) : Memref sig (Dev.tc n : Thread nD τ).2.kind .vmem S512x1024 .bf16) (.dma (sendS j)) hsc)}
    {α : Type} {Q : α → sProp 𝕄} {k : PUnit → Prog (TpuEff nD τ sig (Elt F) Λ₀ .tc) α} :
    iprop(records m K ∗ held M i c fullShare X ∗ (∃ X, held (srcB j) (dstJ j) (nxt c) fullShare X) ∗ ready j c ∗ ow c (OR c a))
      ⊢ iprop(((held M i c fullShare.right X ∗ sending j c ∗ arriving j c ∗ ow c (OR c b))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slab (srcB j) (srcJ j)) (.remote (Dev.tc n : Thread nD τ) (slab (srcB j) (dstJ j)) (.dma (sendS j)) hsc) (.dma (recvS j)) hsrc hdst hsem) k) Q) := by
  subst hn hM hi hX ha hb
  unfold ready ow
  iintro ⟨#HR, Hsrc, ⟨%X, Hdst⟩, ⟨Hts, Htr, Has, Har, Hcr⟩, ⟨%W, HO⟩⟩ Hk
  ihave Hsrc := (held_halve (srcB j) (srcJ j) c (snd m j c)) $$ Hsrc
  icases Hsrc with ⟨Hl, Hr⟩
  unfold held owns
  icases Hl with ⟨%fs, %hfs, Hl⟩
  icases Hdst with ⟨%fd, -, Hdst⟩
  ihave Hl := (Entails.of_eq (congrArg (fun S => (((slot (srcB j) (srcJ j)).view.loc (c : Thread nD τ)) ↦[S]{fullShare.left} fs : sProp 𝕄)) (slab_set (srcB j) (srcJ j)).symm)) $$ Hl
  ihave Hdst := (Entails.of_eq (congrArg (fun S => (((slot (srcB j) (dstJ j)).view.loc (nxt c : Thread nD τ)) ↦[S]{fullShare} fd : sProp 𝕄)) (slab_set (srcB j) (dstJ j)).symm)) $$ Hdst
  iapply (Rounds.wp_send_pointsTo 𝒱₀ ER (ringRd m) (c : Thread nD τ) none (κ₁ := K (c, sIx j)) (κ₂ := K (nxt c, rIx j))
    (src := slab (srcB j) (srcJ j)) (dst := slab (srcB j) (dstJ j)) (c' := (nxt c : Thread nD τ)) (sS := .dma (sendS j)) (sem := .dma (recvS j))
    (r₁ := 0) (r₂ := 0) (d₁ := false) (d₂ := false) (q := fullShare.left) (fs := fs) (fd := fd)
    (by rw [duties_dma]; exact Finset.mem_singleton_self _) (by rw [duties_dma]; exact Finset.mem_singleton_self _)
    () () N (dst_credit j) (amount_dma m c (sendS j) false) (amount_dma m (nxt c) (recvS j) false) (OR c (j.val + 1)) (OR_step c j) (W := W)
    (by
      rw [payload_send, sendPay, held, owns, slab_set]
      iintro H; iexists fs; isplitr; · (ipureintro; exact hfs)
      iexact H)
    (by
      rw [payload_recv, recvPay, prv_nxt, held, owns, slab_set]
      iintro H; iexists _; isplitr [H]; rotate_left; · iexact H
      ipureintro; exact (slab_land (srcB j) (srcB j) (srcJ j) (dstJ j) fd fs).trans hfs)) $$ [Hl Hdst HO Hts Htr]
  · isplitr; · iapply (inv_send m K c j); iexact HR
    isplitr; · iapply (inv_recv m K (nxt c) j); iexact HR
    isplitl [Hl]; · iexact Hl
    isplitl [Hdst]; · iexact Hdst
    isplitl [HO]; · iexact HO
    isplitl [Hts]; · iexact Hts
    isplitr; · iapply (reached_send m K c j); iexact HR
    isplitl [Htr]; · iexact Htr
    iapply (reached_recv m K (nxt c) j); iexact HR
  iintro ⟨Hcs, HO⟩
  iapply Hk
  unfold sending arriving
  isplitl [Hr]; · iexact Hr
  isplitl [Has Hcs]
  · isplitl [Has] <;> iassumption
  isplitl [Har Hcr]
  · isplitl [Har] <;> iassumption
  iexists W; iexact HO

/-- The wait at a copy's near end: the source slot is whole again. -/
theorem wp_wait_send (j : Fin 6) (M : Scr) (i : Fin 4) (X : Blk F) (hM : M = srcB j) (hi : i = srcJ j) (hX : X = snd m j c) {sp sp' : Space} {s s' : Shape} {e e' : EltTy} {κ' : Kind} {src : Memref sig .tc sp' s' e'} {dst : Memref sig κ' sp s e}
    {hsrc : src.view.WordExact} {hdst : dst.view.WordExact} (hN : dst.view.dmaCredit = N) (n : ℕ)
    {α : Type} {Q : α → sProp 𝕄} {k : PUnit → Prog (TpuEff nD τ sig (Elt F) Λ₀ .tc) α} :
    iprop(records m K ∗ levAts L lv ∗ held M i c fullShare.right X ∗ sending j c ∗ ow c (OR c n))
      ⊢ iprop(((held M i c fullShare X ∗ semVal (sendCell j c) 0 ∗ ow c (OR c n))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS j) src dst hsrc hdst) k) Q) := by
  subst hM hi hX
  unfold sending ow
  iintro ⟨#HR, #Hlev, Hr, ⟨Hat, Hc⟩, ⟨%W, HO⟩⟩ Hk
  iapply (Rounds.wp_wait_rest_token 𝒱₀ ER (ringRd m) (c : Thread nD τ) none (κ := K (c, sIx j))
      (wpE_waitDma2_eq 𝒱₀ (c : Thread nD τ) none Set.univ) (Set.mem_univ _) () (O := OR c n) (W := W) (R := 0) (m := 0) (T := ∅)
      (by rw [Nat.zero_add, expect_dma, hN])) $$ [Hc HO Hat]
  · isplitr; · iapply (inv_send m K c j); iexact HR
    isplitl [Hc]; · rw [hN]; iexact Hc
    isplitl [HO]; · iexact HO
    isplitr
    · iapply (mayWait_OR c (.dma (sendS j)) n (by
        show (if isRecv (sendS j) then 2 + (copyOf (sendS j)).val else 0) < 2 + n
        rw [isRecv_send]; show 0 < 2 + n; omega)); iexact Hlev
    iexact Hat
  iintro ⟨HO, Hat, -, Hpay⟩
  ihave Hl := (Entails.of_eq (rest_send m c j)) $$ Hpay
  imod (Rounds.cell_close ER (ringRd m) (Set.mem_univ (K (c, sIx j))) (fun h => h) (R := 0 + 1) (duties_later m (sendCell j c))) $$ [Hat] with Hz
  · isplitr; · iapply (inv_send m K c j); iexact HR
    iexact Hat
  iapply Hk
  isplitl [Hl Hr]
  · unfold sendPay
    iapply (held_join (srcB j) (srcJ j) c (snd m j c))
    isplitl [Hl] <;> iassumption
  isplitl [Hz]; · iexact Hz
  iexists _; iexact HO

/-- The wait at a copy's far end: the destination slot, holding what the left neighbour sent. -/
theorem wp_wait_recv (j : Fin 6) (M : Scr) (i : Fin 4) (X : Blk F) (n : ℕ) (hM : M = srcB j) (hi : i = dstJ j) (hX : X = snd m j (prv c)) (hn : n = j.val + 1) {sp sp' : Space} {s s' : Shape} {e e' : EltTy} {κ' : Kind} {src : Memref sig .tc sp' s' e'} {dst : Memref sig κ' sp s e}
    {hsrc : src.view.WordExact} {hdst : dst.view.WordExact} (hN : dst.view.dmaCredit = N)
    {α : Type} {Q : α → sProp 𝕄} {k : PUnit → Prog (TpuEff nD τ sig (Elt F) Λ₀ .tc) α} :
    iprop(records m K ∗ levAts L lv ∗ arriving j c ∗ ow c (OR c n))
      ⊢ iprop(((held M i c fullShare X ∗ semVal (recvCell j c) 0 ∗ ow c (OR c n))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS j) src dst hsrc hdst) k) Q) := by
  subst hM hi hX hn
  unfold arriving ow
  iintro ⟨#HR, #Hlev, ⟨Hat, Hc⟩, ⟨%W, HO⟩⟩ Hk
  iapply (Rounds.wp_wait_rest_token 𝒱₀ ER (ringRd m) (c : Thread nD τ) none (κ := K (c, rIx j))
      (wpE_waitDma2_eq 𝒱₀ (c : Thread nD τ) none Set.univ) (Set.mem_univ _) () (O := OR c (j.val + 1)) (W := W) (R := 0) (m := 0) (T := ∅)
      (by rw [Nat.zero_add, expect_dma, hN])) $$ [Hc HO Hat]
  · isplitr; · iapply (inv_recv m K c j); iexact HR
    isplitl [Hc]; · rw [hN]; iexact Hc
    isplitl [HO]; · iexact HO
    isplitr
    · iapply (mayWait_OR c (.dma (recvS j)) (j.val + 1) (by
        show lv (recvCell j c) () < _
        rw [lv_recv]; omega)); iexact Hlev
    iexact Hat
  iintro ⟨HO, Hat, -, Hpay⟩
  ihave Hl := (Entails.of_eq (rest_recv m c j)) $$ Hpay
  imod (Rounds.cell_close ER (ringRd m) (Set.mem_univ (K (c, rIx j))) (fun h => h) (R := 0 + 1) (duties_later m (recvCell j c))) $$ [Hat] with Hz
  · isplitr; · iapply (inv_recv m K c j); iexact HR
    iexact Hat
  iapply Hk
  isplitl [Hl]; · unfold recvPay; iexact Hl
  isplitl [Hz]; · iexact Hz
  iexists _; iexact HO

end Rules

/-! ## Loads and stores -/

section LoadStore
variable (c : Dev nD)

/-- A load of a held buffer reads its contents at the rectangle. -/
theorem wp_load_cut {s : Shape} {e : EltTy} {M : Memref sig .tc .vmem s e} {q : PosShare TreeShare} {X : s.Idx → Elt F e} {r : Rect s}
    {α : Type} {Q : α → sProp 𝕄} {hl : M.view.LoadsAt r.toLoadRect} {k : (r.toLoadRect.shape.Idx → Elt F e) → Prog (TpuEff nD τ sig (Elt F) Λ₀ .tc) α} :
    (owns (c : Thread nD τ) M q X : sProp 𝕄)
      ⊢ iprop((owns (c : Thread nD τ) M q X -∗ wp frame (wpE (defs₀ (F := F)) 𝒱₀ (c : Thread nD τ) none) Set.univ (k (cut r X)) Q)
        -∗ wp frame (wpE (defs₀ (F := F)) 𝒱₀ (c : Thread nD τ) none) Set.univ (.op (.load M r.toLoadRect hl) k) Q) := by
  unfold owns
  iintro ⟨%f, %hf, H⟩ Hk
  iapply (wp_load 𝒱₀ (c : Thread nD τ) none Set.univ (m := M) (S := M.view.set) (View.setOn_subset_set _ _)) $$ H
  iintro H
  rw [show M.view.readAt (Elt F) r.toLoadRect f = cut r X from by rw [← hf]; rfl]
  iapply Hk
  iexists f; isplitr; · (ipureintro; exact hf)
  iexact H

/-- A store leaves `Y`, when `Y` is the stored block in the rectangle and the old contents elsewhere. -/
theorem wp_store_cut {s : Shape} {e : EltTy} {M : Memref sig .tc .vmem s e} {X : s.Idx → Elt F e} {r : Rect s} {w : r.shape.Idx → Elt F e}
    (Y : s.Idx → Elt F e) (hin : ∀ x, Y (r.emb x) = w x) (hout : ∀ i, i ∉ r.set → Y i = X i)
    {α : Type} {Q : α → sProp 𝕄} {hs} {hm} {k : PUnit → Prog (TpuEff nD τ sig (Elt F) Λ₀ .tc) α} :
    (owns (c : Thread nD τ) M fullShare X : sProp 𝕄)
      ⊢ iprop((owns (c : Thread nD τ) M fullShare Y -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hs hm) k) Q) := by
  unfold owns
  iintro ⟨%f, %hf, H⟩ Hk
  iapply (wp_store 𝒱₀ (c : Thread nD τ) none Set.univ (m := M) (r := r) (Mk := Finset.univ) (S := M.view.set) (View.set_slice_subset _ _)) $$ H
  iintro H
  iapply Hk
  iexists _; isplitr [H]; rotate_left; · iexact H
  ipureintro
  funext i
  by_cases hi : i ∈ r.set
  · obtain ⟨x, rfl⟩ : ∃ x, r.emb x = i := by
      rw [← Rect.map_emb_univ] at hi
      obtain ⟨x, -, hx⟩ := Finset.mem_map.mp hi
      exact ⟨x, hx⟩
    rw [hin]
    exact congrFun (View.read_write_univ (v := M.view.slice r) f w) x
  · rw [hout i hi, ← hf]
    exact View.read_congr_at (v := M.view) i (View.write_of_not_mem _ _ _ (by
      rw [View.setOn_univ, View.set_slice]
      exact fun h => hi (by
        obtain ⟨y, hy, e⟩ := Finset.mem_map.mp h
        rwa [← M.view.emb.injective e])))

/-- The store of row block `n` on top of the blocks before it. -/
theorem wp_store_rows {M : Memref sig .tc .vmem S2048x1024 .bf16} (X : Fin 4 → Vec F S512x1024 .bf16) (f : Vec F S2048x1024 .bf16) (n : Fin 4) (a b : ℕ) (ha : a = n.val) (hb : b = n.val + 1)
    {α : Type} {Q : α → sProp 𝕄} {hs} {hm} {k : PUnit → Prog (TpuEff nD τ sig (Elt F) Λ₀ .tc) α} :
    (owns (c : Thread nD τ) M fullShare (fill a X f) : sProp 𝕄)
      ⊢ iprop((owns (c : Thread nD τ) M fullShare (fill b X f) -∗ wp frame (wpE (defs₀ (F := F)) 𝒱₀ (c : Thread nD τ) none) Set.univ (k ⟨⟩) Q)
        -∗ wp frame (wpE (defs₀ (F := F)) 𝒱₀ (c : Thread nD τ) none) Set.univ (.op (.store M (rRows n) (X n) Finset.univ hs hm) k) Q) := by
  subst ha hb
  refine wp_store_cut (F := F) c (M := M) (r := rRows n) (w := X n) (fill (n.val + 1) X f) ?_ ?_
  · intro x
    have h0 : (x 0).val < 512 := (x 0).isLt
    have h1 : (x 1).val < 1024 := (x 1).isLt
    have e0 : (((rRows n).emb x) 0).val = 512 * n.val + (x 0).val := by
      show 512 * n.val + 1 * (x 0).val = _; omega
    have e1 : (((rRows n).emb x) 1).val = (x 1).val := by
      show 0 + 1 * (x 1).val = _; omega
    unfold fill rowsOf
    rw [if_pos (by rw [e0]; omega)]
    have hn : (⟨(((rRows n).emb x) 0).val / 512, by rw [e0]; have := n.isLt; omega⟩ : Fin 4) = n := Fin.ext (by show (((rRows n).emb x) 0).val / 512 = n.val; rw [e0]; omega)
    rw [hn]
    congr 1
    funext a
    fin_cases a
    · exact Fin.ext (by show (((rRows n).emb x) 0).val % 512 = (x 0).val; rw [e0]; omega)
    · exact Fin.ext (by show (((rRows n).emb x) 1).val = (x 1).val; rw [e1])
  · intro i hi
    have h1 : (i 1).val < 1024 := (i 1).isLt
    unfold fill
    have : Iff ((i 0).val < 512 * (n.val + 1)) ((i 0).val < 512 * n.val) := by
      constructor
      · intro h
        by_contra hn
        refine hi (Rect.mem_set_unit.mpr fun a => ?_)
        fin_cases a
        · exact ⟨by show 512 * n.val ≤ (i 0).val; omega, by show (i 0).val < 512 * n.val + 512; omega⟩
        · exact ⟨Nat.zero_le _, by show (i 1).val < 0 + 1024; omega⟩
      · intro h; omega
    by_cases h : (i 0).val < 512 * n.val
    · rw [if_pos h, if_pos (this.mpr h)]
    · rw [if_neg h, if_neg (fun h' => h (this.mp h'))]

/-- Before the first block the buffer holds anything, -/
theorem fill_zero (X : Fin 4 → Vec F S512x1024 .bf16) (f : Vec F S2048x1024 .bf16) : fill 0 X f = f := by
  funext i; unfold fill; rw [if_neg (by omega)]
/-- and after the last the four blocks. -/
theorem fill_four (X : Fin 4 → Vec F S512x1024 .bf16) (f : Vec F S2048x1024 .bf16) : fill 4 X f = rowsOf X := by
  funext i; unfold fill; have : (i 0).val < 2048 := (i 0).isLt; rw [if_pos (by omega)]

end LoadStore

end Cert.KernelIdeal.Ring

end
-- ==== Proof.KernelIdeal.Buffers.lean ====
/- The printed body's parts are run at the kernel's buffers: the shape of that, and the resources the parts pass on. -/
module

public import proofs.«01_k».proof.Proof.KernelIdeal.Steps

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A part of the body at the kernel's buffers and semaphores. -/
abbrev atBufs {β : Type 1} (f : (a0 : Memref sig .tc .vmem S1x512x1024 .bf16) → a0.IsWhole → (a1 : Memref sig .tc .vmem S1024x1024 .bf16) → a1.IsWhole → (a2 : Memref sig .tc .vmem S1024x1024 .bf16) → a2.IsWhole → (a3 : Memref sig .tc .vmem S1024x1024 .bf16) → a3.IsWhole → (a4 : Memref sig .tc .vmem S1024x1024 .bf16) → a4.IsWhole → (a5 : Memref sig .tc .vmem S1x512x1024 .f32) → a5.IsWhole → (a6 : Memref sig .tc .vmem S4x512x1024 .bf16) → a6.IsWhole → (a7 : Memref sig .tc .vmem S2048x1024 .bf16) → a7.IsWhole → (a8 : Memref sig .tc .vmem S2048x1024 .bf16) → a8.IsWhole → (a9 : Memref sig .tc .vmem S2048x1024 .bf16) → a9.IsWhole → (a10 : Memref sig .tc .vmem S4x512x1024 .bf16) → a10.IsWhole
    → DmaSems sig S3 → DmaSems sig S3 → DmaSems sig S3 → DmaSems sig S3 → β) : β :=
  f xM (Memref.isWhole_whole _) wqM (Memref.isWhole_whole _) woM (Memref.isWhole_whole _) wkM (Memref.isWhole_whole _) wvM (Memref.isWhole_whole _) oM (Memref.isWhole_whole _) xgM (Memref.isWhole_whole _) qM (Memref.isWhole_whole _) kM (Memref.isWhole_whole _) vM (Memref.isWhole_whole _) rsM (Memref.isWhole_whole _)
    cc0_scratch5 cc0_scratch6 cc0_scratch7 cc0_scratch8

/-- Queries, keys, values and output weight, as the heads read them. -/
def core (c : Dev nD) (Q K V : Vec F S2048x1024 .bf16) (W : Vec F S1024x1024 .bf16) : sProp 𝕄 :=
  iprop(owns (c : Thread nD τ) qM fullShare Q ∗ owns (c : Thread nD τ) kM fullShare K ∗ owns (c : Thread nD τ) vM fullShare V
    ∗ owns (c : Thread nD τ) woM fullShare W)

variable (m : (ℓ : Loc nD τ sig) → Buf (Elt F) ℓ)

/-- The three projection weights. -/
def wts (c : Dev nD) : sProp 𝕄 :=
  iprop(owns (c : Thread nD τ) wqM fullShare (wqS m c) ∗ owns (c : Thread nD τ) wkM fullShare (wkS m c) ∗ owns (c : Thread nD τ) wvM fullShare (wvS m c))

/-- Queries, keys and values, each with its first row blocks computed: `a` of the queries, `b` of the keys, `e` of the values. -/
def rows (c : Dev nD) (fq fk fv : Vec F S2048x1024 .bf16) (a b e : ℕ) : sProp 𝕄 :=
  iprop(owns (c : Thread nD τ) qM fullShare (fill a (qC m c) fq) ∗ owns (c : Thread nD τ) kM fullShare (fill b (kC m c) fk)
    ∗ owns (c : Thread nD τ) vM fullShare (fill e (vC m c) fv))

end Cert.KernelIdeal.Ring

end
-- ==== Proof.KernelIdeal.Gather.lean ====
/- The first half of the body, in its printed parts: the barrier, then three copies of the gathered block to the right, each under the
   projections of the block before. -/
module

public import proofs.«01_k».proof.Proof.KernelIdeal.Buffers

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ) (c : Dev nD)

/-- The first barrier signal goes left, -/
theorem dev1_eq : (⟨k0_dev1 c, k0_dev1_lt c⟩ : Dev nD) = prv c := Fin.ext (k0_dev1_eq c)
/-- the second right, -/
theorem dev2_eq : (⟨k0_dev2 c, k0_dev2_lt c⟩ : Dev nD) = nxt c := Fin.ext (k0_dev2_eq c)
/-- and every copy goes right: the first, -/
theorem dev3_eq : (⟨k0_dev3 c, k0_dev3_lt c⟩ : Dev nD) = nxt c := Fin.ext (k0_dev3_eq c)
/-- the second, -/
theorem dev4_eq : (⟨k0_dev4 c, k0_dev4_lt c⟩ : Dev nD) = nxt c := Fin.ext (k0_dev4_eq c)
/-- the third, -/
theorem dev5_eq : (⟨k0_dev5 c, k0_dev5_lt c⟩ : Dev nD) = nxt c := Fin.ext (k0_dev5_eq c)
/-- the fourth, -/
theorem dev6_eq : (⟨k0_dev6 c, k0_dev6_lt c⟩ : Dev nD) = nxt c := Fin.ext (k0_dev6_eq c)
/-- the fifth, -/
theorem dev7_eq : (⟨k0_dev7 c, k0_dev7_lt c⟩ : Dev nD) = nxt c := Fin.ext (k0_dev7_eq c)
/-- the sixth. -/
theorem dev8_eq : (⟨k0_dev8 c, k0_dev8_lt c⟩ : Dev nD) = nxt c := Fin.ext (k0_dev8_eq c)

section Parts
variable (fq fk fv : Vec F S2048x1024 .bf16)

set_option maxHeartbeats 400000 in
/-- The barrier, and the device's own block into slot 0. -/
theorem part1_run (f0 : Blk F) {Q : _ → sProp 𝕄} :
    iprop(records m K ∗ levAts L lv ∗ gate c ∗ landing c ∗ ow c (O₀ c) ∗ owns (c : Thread nD τ) xM fullShare (xS m c) ∗ held xgM 0 c fullShare f0)
      ⊢ iprop((∀ v, (landing (nxt c) ∗ semVal (barCell c) 0 ∗ ow c (OR c 0) ∗ owns (c : Thread nD τ) xM fullShare (xS m c) ∗ held xgM 0 c fullShare (gx m 0 c)) -∗ Q ⟨c, v⟩)
        -∗ wp frame (wpE (defs₀ (F := F)) 𝒱₀ (c : Thread nD τ) none) Set.univ (atBufs (k0_part1 (F := F)) ) Q) := by
  simp only [k0_part1_eq_skeleton]; unfold k0_part1_skel
  simp only [semSignalWord, semWaitWord, Prog.lift, Prog.bind_op, Prog.bind_ret, Prog.pure_eq_ret, wp_deviceId]
  simp only [dev1_eq c, dev2_eq c]
  iintro ⟨#HR, #Hlev, Hg, Hl, Ho, Hx, H0⟩ Hk
  iapply (wp_gate m K c (prv c) (nxt c) rfl rfl) $$ [Hg Hl Ho]
  · isplitr; · iexact HR
    isplitr; · iexact Hlev
    isplitl [Hg]; · iexact Hg
    isplitl [Hl] <;> iassumption
  iintro ⟨Hl, Hz, Ho⟩
  iapply (wp_load_cut (F := F) c) $$ Hx; iintro Hx
  iapply (wp_load_slot (F := F) xgM 0 c fullShare f0) $$ H0; iintro H0
  iapply (wp_store_slot (F := F) xgM 0 c f0 (gx m 0 c)) $$ H0; iintro H0
  rw [wp_ret]; imodintro
  iapply Hk $$ %_
  isplitl [Hl]; · iexact Hl
  isplitl [Hz]; · iexact Hz
  isplitl [Ho]; · iexact Ho
  isplitl [Hx]; · iexact Hx
  iexact H0

set_option maxHeartbeats 400000 in
/-- Copy 0 starts; the projections of slot 0. -/
theorem part2_run  {Q : _ → sProp 𝕄} :
    iprop(records m K ∗ held xgM 0 c fullShare (gx m 0 c) ∗ (∃ X, held (srcB 0) (dstJ 0) (nxt c) fullShare X) ∗ ready 0 c ∗ ow c (OR c 0) ∗ wts m c ∗ rows m c fq fk fv 0 0 0)
      ⊢ iprop(((held xgM 0 c fullShare.right (gx m 0 c) ∗ sending 0 c ∗ arriving 0 c ∗ ow c (OR c 1) ∗ wts m c ∗ rows m c fq fk fv 1 1 1) -∗ Q ⟨⟩)
        -∗ wp frame (wpE (defs₀ (F := F)) 𝒱₀ (c : Thread nD τ) none) Set.univ (atBufs (k0_part2 (F := F)) c) Q) := by
  simp only [k0_part2_eq_skeleton]; unfold k0_part2_skel
  simp only [semSignalWord, semWaitWord, Prog.lift, Prog.bind_op, Prog.bind_ret, Prog.pure_eq_ret, wp_deviceId]
  unfold wts rows
  iintro ⟨#HR, H0, Hd, Hr, Ho, ⟨Hwq, Hwk, Hwv⟩, ⟨Hq, Hkk, Hv⟩⟩ Hk
  iapply (wp_copy m K c 0 _ (dev3_eq c) xgM 0 (gx m 0 c) rfl rfl rfl (a := 0) (b := 1) rfl rfl) $$ [H0 Hd Hr Ho]
  · isplitr; · iexact HR
    isplitl [H0]; · iexact H0
    isplitl [Hd]; · iexact Hd
    isplitl [Hr]; · iexact Hr
    iexact Ho
  iintro ⟨H0, Hs, Ha, Ho⟩
  iapply (wp_load_slot (F := F) xgM 0 c fullShare.right (gx m 0 c)) $$ H0; iintro H0
  iapply (wp_load_cut (F := F) c) $$ Hwq; iintro Hwq
  iapply (wp_load_cut (F := F) c) $$ Hq; iintro Hq
  iapply (wp_store_rows (F := F) c (qC m c) fq 0 0 1 rfl rfl) $$ Hq; iintro Hq
  iapply (wp_load_cut (F := F) c) $$ Hwk; iintro Hwk
  iapply (wp_load_cut (F := F) c) $$ Hkk; iintro Hkk
  iapply (wp_store_rows (F := F) c (kC m c) fk 0 0 1 rfl rfl) $$ Hkk; iintro Hkk
  iapply (wp_load_cut (F := F) c) $$ Hwv; iintro Hwv
  iapply (wp_load_cut (F := F) c) $$ Hv; iintro Hv
  iapply (wp_store_rows (F := F) c (vC m c) fv 0 0 1 rfl rfl) $$ Hv; iintro Hv
  rw [wp_ret]; imodintro
  iapply Hk
  isplitl [H0]; · iexact H0
  isplitl [Hs]; · iexact Hs
  isplitl [Ha]; · iexact Ha
  isplitl [Ho]; · iexact Ho
  isplitl [Hwq Hwk Hwv]
  · isplitl [Hwq]; · iexact Hwq
    isplitl [Hwk] <;> iassumption
  isplitl [Hq]; · iexact Hq
  isplitl [Hkk] <;> iassumption

set_option maxHeartbeats 400000 in
/-- Copy 0 ends, copy 1 starts; the queries of slot 1. -/
theorem part3_run (v7 : BitVec 32) {Q : _ → sProp 𝕄} :
    iprop(records m K ∗ levAts L lv ∗ held xgM 0 c fullShare.right (gx m 0 c) ∗ sending 0 c ∗ arriving 0 c ∗ (∃ X, held (srcB 1) (dstJ 1) (nxt c) fullShare X) ∗ ready 1 c ∗ ow c (OR c 1) ∗ wts m c ∗ rows m c fq fk fv 1 1 1)
      ⊢ iprop((∀ v, (held xgM 0 c fullShare (gx m 0 c) ∗ semVal (sendCell 0 c) 0 ∗ semVal (recvCell 0 c) 0 ∗ held xgM 1 c fullShare.right (gx m 1 c) ∗ sending 1 c ∗ arriving 1 c ∗ ow c (OR c 2) ∗ wts m c ∗ rows m c fq fk fv 1 1 1) -∗ Q ⟨k0_pay7 (gx m 1 c), k0_pay8 (gx m 1 c) (cut rW (wqS m c)), v⟩)
        -∗ wp frame (wpE (defs₀ (F := F)) 𝒱₀ (c : Thread nD τ) none) Set.univ (atBufs (k0_part3 (F := F)) c v7) Q) := by
  simp only [k0_part3_eq_skeleton]; unfold k0_part3_skel
  simp only [semSignalWord, semWaitWord, Prog.lift, Prog.bind_op, Prog.bind_ret, Prog.pure_eq_ret, wp_deviceId]
  unfold wts rows
  iintro ⟨#HR, #Hlev, H0, Hs, Ha, Hd, Hr, Ho, ⟨Hwq, Hwk, Hwv⟩, ⟨Hq, Hkk, Hv⟩⟩ Hk
  iapply (wp_wait_send m K c 0 xgM 0 (gx m 0 c) rfl rfl rfl (src_credit 0) 1) $$ [H0 Hs Ho]
  · isplitr; · iexact HR
    isplitr; · iexact Hlev
    isplitl [H0]; · iexact H0
    isplitl [Hs] <;> iassumption
  iintro ⟨H0, Hz0, Ho⟩
  iapply (wp_wait_recv m K c 0 xgM 1 (gx m 1 c) 1 rfl rfl rfl rfl (dst_credit 0)) $$ [Ha Ho]
  · isplitr; · iexact HR
    isplitr; · iexact Hlev
    isplitl [Ha] <;> iassumption
  iintro ⟨H1, Hz1, Ho⟩
  iapply (wp_copy m K c 1 _ (dev4_eq c) xgM 1 (gx m 1 c) rfl rfl rfl (a := 1) (b := 2) rfl rfl) $$ [H1 Hd Hr Ho]
  · isplitr; · iexact HR
    isplitl [H1]; · iexact H1
    isplitl [Hd]; · iexact Hd
    isplitl [Hr]; · iexact Hr
    iexact Ho
  iintro ⟨H1, Hs, Ha, Ho⟩
  iapply (wp_load_slot (F := F) xgM 1 c fullShare.right (gx m 1 c)) $$ H1; iintro H1
  iapply (wp_load_cut (F := F) c) $$ Hwq; iintro Hwq
  iapply (wp_load_cut (F := F) c) $$ Hq; iintro Hq
  rw [wp_ret]; imodintro
  iapply Hk $$ %_
  isplitl [H0]; · iexact H0
  isplitl [Hz0]; · iexact Hz0
  isplitl [Hz1]; · iexact Hz1
  isplitl [H1]; · iexact H1
  isplitl [Hs]; · iexact Hs
  isplitl [Ha]; · iexact Ha
  isplitl [Ho]; · iexact Ho
  isplitl [Hwq Hwk Hwv]
  · isplitl [Hwq]; · iexact Hwq
    isplitl [Hwk] <;> iassumption
  isplitl [Hq]; · iexact Hq
  isplitl [Hkk] <;> iassumption

set_option maxHeartbeats 400000 in
/-- The rest of slot 1; copy 1's source is free again. -/
theorem part4_run (v7 : BitVec 32) (v81 : Vec F S512x1024 .bf16) {Q : _ → sProp 𝕄} :
    iprop(records m K ∗ levAts L lv ∗ held xgM 1 c fullShare.right (gx m 1 c) ∗ sending 1 c ∗ ow c (OR c 2) ∗ wts m c ∗ rows m c fq fk fv 1 1 1)
      ⊢ iprop(((held xgM 1 c fullShare (gx m 1 c) ∗ semVal (sendCell 1 c) 0 ∗ ow c (OR c 2) ∗ wts m c ∗ rows m c fq fk fv 2 2 2) -∗ Q ⟨⟩)
        -∗ wp frame (wpE (defs₀ (F := F)) 𝒱₀ (c : Thread nD τ) none) Set.univ (atBufs (k0_part4 (F := F)) v7 (k0_pay7 (gx m 1 c)) (k0_pay8 (gx m 1 c) (cut rW (wqS m c))) v81) Q) := by
  simp only [k0_part4_eq_skeleton]; unfold k0_part4_skel
  simp only [semSignalWord, semWaitWord, Prog.lift, Prog.bind_op, Prog.bind_ret, Prog.pure_eq_ret, wp_deviceId]
  unfold wts rows
  iintro ⟨#HR, #Hlev, H1, Hs, Ho, ⟨Hwq, Hwk, Hwv⟩, ⟨Hq, Hkk, Hv⟩⟩ Hk
  iapply (wp_store_rows (F := F) c (qC m c) fq 1 1 2 rfl rfl) $$ Hq; iintro Hq
  iapply (wp_load_cut (F := F) c) $$ Hwk; iintro Hwk
  iapply (wp_load_cut (F := F) c) $$ Hkk; iintro Hkk
  iapply (wp_store_rows (F := F) c (kC m c) fk 1 1 2 rfl rfl) $$ Hkk; iintro Hkk
  iapply (wp_load_cut (F := F) c) $$ Hwv; iintro Hwv
  iapply (wp_load_cut (F := F) c) $$ Hv; iintro Hv
  iapply (wp_store_rows (F := F) c (vC m c) fv 1 1 2 rfl rfl) $$ Hv; iintro Hv
  iapply (wp_wait_send m K c 1 xgM 1 (gx m 1 c) rfl rfl rfl (src_credit 1) 2) $$ [H1 Hs Ho]
  · isplitr; · iexact HR
    isplitr; · iexact Hlev
    isplitl [H1]; · iexact H1
    isplitl [Hs] <;> iassumption
  iintro ⟨H1, Hz0, Ho⟩
  rw [wp_ret]; imodintro
  iapply Hk
  isplitl [H1]; · iexact H1
  isplitl [Hz0]; · iexact Hz0
  isplitl [Ho]; · iexact Ho
  isplitl [Hwq Hwk Hwv]
  · isplitl [Hwq]; · iexact Hwq
    isplitl [Hwk] <;> iassumption
  isplitl [Hq]; · iexact Hq
  isplitl [Hkk] <;> iassumption

set_option maxHeartbeats 400000 in
/-- Copy 1 has arrived, copy 2 starts; queries and keys of slot 2. -/
theorem part5_run (v7 : BitVec 32) {Q : _ → sProp 𝕄} :
    iprop(records m K ∗ levAts L lv ∗ arriving 1 c ∗ (∃ X, held (srcB 2) (dstJ 2) (nxt c) fullShare X) ∗ ready 2 c ∗ ow c (OR c 2) ∗ wts m c ∗ rows m c fq fk fv 2 2 2)
      ⊢ iprop(((semVal (recvCell 1 c) 0 ∗ held xgM 2 c fullShare.right (gx m 2 c) ∗ sending 2 c ∗ arriving 2 c ∗ ow c (OR c 3) ∗ wts m c ∗ rows m c fq fk fv 3 3 2) -∗ Q ⟨k0_pay12 (gx m 2 c), k0_pay15 (cut rW (wvS m c))⟩)
        -∗ wp frame (wpE (defs₀ (F := F)) 𝒱₀ (c : Thread nD τ) none) Set.univ (atBufs (k0_part5 (F := F)) c v7) Q) := by
  simp only [k0_part5_eq_skeleton]; unfold k0_part5_skel
  simp only [semSignalWord, semWaitWord, Prog.lift, Prog.bind_op, Prog.bind_ret, Prog.pure_eq_ret, wp_deviceId]
  unfold wts rows
  iintro ⟨#HR, #Hlev, Ha, Hd, Hr, Ho, ⟨Hwq, Hwk, Hwv⟩, ⟨Hq, Hkk, Hv⟩⟩ Hk
  iapply (wp_wait_recv m K c 1 xgM 2 (gx m 2 c) 2 rfl rfl rfl rfl (dst_credit 1)) $$ [Ha Ho]
  · isplitr; · iexact HR
    isplitr; · iexact Hlev
    isplitl [Ha] <;> iassumption
  iintro ⟨H2, Hz1, Ho⟩
  iapply (wp_copy m K c 2 _ (dev5_eq c) xgM 2 (gx m 2 c) rfl rfl rfl (a := 2) (b := 3) rfl rfl) $$ [H2 Hd Hr Ho]
  · isplitr; · iexact HR
    isplitl [H2]; · iexact H2
    isplitl [Hd]; · iexact Hd
    isplitl [Hr]; · iexact Hr
    iexact Ho
  iintro ⟨H2, Hs, Ha, Ho⟩
  iapply (wp_load_slot (F := F) xgM 2 c fullShare.right (gx m 2 c)) $$ H2; iintro H2
  iapply (wp_load_cut (F := F) c) $$ Hwq; iintro Hwq
  iapply (wp_load_cut (F := F) c) $$ Hq; iintro Hq
  iapply (wp_store_rows (F := F) c (qC m c) fq 2 2 3 rfl rfl) $$ Hq; iintro Hq
  iapply (wp_load_cut (F := F) c) $$ Hwk; iintro Hwk
  iapply (wp_load_cut (F := F) c) $$ Hkk; iintro Hkk
  iapply (wp_store_rows (F := F) c (kC m c) fk 2 2 3 rfl rfl) $$ Hkk; iintro Hkk
  iapply (wp_load_cut (F := F) c) $$ Hwv; iintro Hwv
  rw [wp_ret]; imodintro
  iapply Hk
  isplitl [Hz1]; · iexact Hz1
  isplitl [H2]; · iexact H2
  isplitl [Hs]; · iexact Hs
  isplitl [Ha]; · iexact Ha
  isplitl [Ho]; · iexact Ho
  isplitl [Hwq Hwk Hwv]
  · isplitl [Hwq]; · iexact Hwq
    isplitl [Hwk] <;> iassumption
  isplitl [Hq]; · iexact Hq
  isplitl [Hkk] <;> iassumption

set_option maxHeartbeats 400000 in
/-- The values of slot 2; copy 2 ends; the queries of slot 3. -/
theorem part6_run (v7 : BitVec 32) {Q : _ → sProp 𝕄} :
    iprop(records m K ∗ levAts L lv ∗ held xgM 2 c fullShare.right (gx m 2 c) ∗ sending 2 c ∗ arriving 2 c ∗ ow c (OR c 3) ∗ wts m c ∗ rows m c fq fk fv 3 3 2)
      ⊢ iprop(((held xgM 2 c fullShare (gx m 2 c) ∗ semVal (sendCell 2 c) 0 ∗ semVal (recvCell 2 c) 0 ∗ held xgM 3 c fullShare (gx m 3 c) ∗ ow c (OR c 3) ∗ wts m c ∗ rows m c fq fk fv 3 3 3) -∗ Q ⟨k0_pay17 (gx m 3 c), k0_pay18 (gx m 3 c) (cut rW (wqS m c))⟩)
        -∗ wp frame (wpE (defs₀ (F := F)) 𝒱₀ (c : Thread nD τ) none) Set.univ (atBufs (k0_part6 (F := F)) v7 (k0_pay12 (gx m 2 c)) (k0_pay15 (cut rW (wvS m c)))) Q) := by
  simp only [k0_part6_eq_skeleton]; unfold k0_part6_skel
  simp only [semSignalWord, semWaitWord, Prog.lift, Prog.bind_op, Prog.bind_ret, Prog.pure_eq_ret, wp_deviceId]
  unfold wts rows
  iintro ⟨#HR, #Hlev, H2, Hs, Ha, Ho, ⟨Hwq, Hwk, Hwv⟩, ⟨Hq, Hkk, Hv⟩⟩ Hk
  iapply (wp_load_cut (F := F) c) $$ Hv; iintro Hv
  iapply (wp_store_rows (F := F) c (vC m c) fv 2 2 3 rfl rfl) $$ Hv; iintro Hv
  iapply (wp_wait_send m K c 2 xgM 2 (gx m 2 c) rfl rfl rfl (src_credit 2) 3) $$ [H2 Hs Ho]
  · isplitr; · iexact HR
    isplitr; · iexact Hlev
    isplitl [H2]; · iexact H2
    isplitl [Hs] <;> iassumption
  iintro ⟨H2, Hz0, Ho⟩
  iapply (wp_wait_recv m K c 2 xgM 3 (gx m 3 c) 3 rfl rfl rfl rfl (dst_credit 2)) $$ [Ha Ho]
  · isplitr; · iexact HR
    isplitr; · iexact Hlev
    isplitl [Ha] <;> iassumption
  iintro ⟨H3, Hz1, Ho⟩
  iapply (wp_load_slot (F := F) xgM 3 c fullShare (gx m 3 c)) $$ H3; iintro H3
  iapply (wp_load_cut (F := F) c) $$ Hwq; iintro Hwq
  iapply (wp_load_cut (F := F) c) $$ Hq; iintro Hq
  rw [wp_ret]; imodintro
  iapply Hk
  isplitl [H2]; · iexact H2
  isplitl [Hz0]; · iexact Hz0
  isplitl [Hz1]; · iexact Hz1
  isplitl [H3]; · iexact H3
  isplitl [Ho]; · iexact Ho
  isplitl [Hwq Hwk Hwv]
  · isplitl [Hwq]; · iexact Hwq
    isplitl [Hwk] <;> iassumption
  isplitl [Hq]; · iexact Hq
  isplitl [Hkk] <;> iassumption

set_option maxHeartbeats 400000 in
/-- The rest of slot 3; the first head of the first partial output. -/
theorem part7_run (W : Vec F S1024x1024 .bf16) {Q : _ → sProp 𝕄} :
    iprop(wts m c ∗ rows m c fq fk fv 3 3 3 ∗ owns (c : Thread nD τ) woM fullShare W)
      ⊢ iprop(((wts m c ∗ core c (rowsOf (qC m c)) (rowsOf (kC m c)) (rowsOf (vC m c)) W) -∗ Q ⟨k0_pay22, k0_pay23 (cut (rQ 1 0) (rowsOf (qC m c))) (cut (rK 0) (rowsOf (kC m c))) (cut (rK 0) (rowsOf (vC m c)))⟩)
        -∗ wp frame (wpE (defs₀ (F := F)) 𝒱₀ (c : Thread nD τ) none) Set.univ (atBufs (k0_part7 (F := F)) (k0_pay17 (gx m 3 c)) (k0_pay18 (gx m 3 c) (cut rW (wqS m c)))) Q) := by
  simp only [k0_part7_eq_skeleton]; unfold k0_part7_skel
  simp only [semSignalWord, semWaitWord, Prog.lift, Prog.bind_op, Prog.bind_ret, Prog.pure_eq_ret, wp_deviceId]
  unfold wts rows core
  iintro ⟨⟨Hwq, Hwk, Hwv⟩, ⟨Hq, Hkk, Hv⟩, Hwo⟩ Hk
  iapply (wp_store_rows (F := F) c (qC m c) fq 3 3 4 rfl rfl) $$ Hq; iintro Hq
  iapply (wp_load_cut (F := F) c) $$ Hwk; iintro Hwk
  iapply (wp_load_cut (F := F) c) $$ Hkk; iintro Hkk
  iapply (wp_store_rows (F := F) c (kC m c) fk 3 3 4 rfl rfl) $$ Hkk; iintro Hkk
  iapply (wp_load_cut (F := F) c) $$ Hwv; iintro Hwv
  iapply (wp_load_cut (F := F) c) $$ Hv; iintro Hv
  iapply (wp_store_rows (F := F) c (vC m c) fv 3 3 4 rfl rfl) $$ Hv; iintro Hv
  simp only [fill_four]
  iapply (wp_load_cut (F := F) c) $$ Hq; iintro Hq
  iapply (wp_load_cut (F := F) c) $$ Hkk; iintro Hkk
  iapply (wp_load_cut (F := F) c) $$ Hv; iintro Hv
  rw [wp_ret]; imodintro
  iapply Hk
  isplitl [Hwq Hwk Hwv]
  · isplitl [Hwq]; · iexact Hwq
    isplitl [Hwk] <;> iassumption
  isplitl [Hq]; · iexact Hq
  isplitl [Hkk]; · iexact Hkk
  isplitl [Hv] <;> iassumption

end Parts

end Cert.KernelIdeal.Ring

end
-- ==== Proof.KernelIdeal.Heads.lean ====
/- The second half of the body, in its printed parts: each partial output's eight heads, and three copies of the sums to the
   right. -/
module

public import proofs.«01_k».proof.Proof.KernelIdeal.Gather

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (N₀ : Dev nD × Fin 13 → ℕ) (c : Dev nD)
variable (Q K V : Vec F S2048x1024 .bf16) (W : Vec F S1024x1024 .bf16)

set_option maxHeartbeats 400000 in
/-- Heads of a partial output: loads only. -/
theorem part8_run (v182 : FVec F S512x1024 .f32) (v200 : FVec F S512x128 .bf16) {T : _ → sProp 𝕄} :
    iprop(core c Q K V W)
      ⊢ iprop(((core c Q K V W) -∗ T ⟨k0_pay24 v182 v200 (cut (rO 0) W) (cut (rQ 1 1) Q) (cut (rK 1) K) (cut (rK 1) V) (cut (rO 1) W), (cut (rK 2) V), k0_pay25 (cut (rQ 1 2) Q) (cut (rK 2) K), k0_pay26 (cut (rQ 1 2) Q) (cut (rK 2) K)⟩)
        -∗ wp frame (wpE (defs₀ (F := F)) 𝒱₀ (c : Thread nD τ) none) Set.univ (atBufs (k0_part8 (F := F)) v182 v200) T) := by
  simp only [k0_part8_eq_skeleton]; unfold k0_part8_skel
  simp only [semSignalWord, semWaitWord, Prog.lift, Prog.bind_op, Prog.bind_ret, Prog.pure_eq_ret, wp_deviceId]
  unfold core
  iintro ⟨Hq, Hkk, Hv, Hwo⟩ Hk
  iapply (wp_load_cut (F := F) c) $$ Hwo; iintro Hwo
  iapply (wp_load_cut (F := F) c) $$ Hq; iintro Hq
  iapply (wp_load_cut (F := F) c) $$ Hkk; iintro Hkk
  iapply (wp_load_cut (F := F) c) $$ Hv; iintro Hv
  iapply (wp_load_cut (F := F) c) $$ Hwo; iintro Hwo
  iapply (wp_load_cut (F := F) c) $$ Hq; iintro Hq
  iapply (wp_load_cut (F := F) c) $$ Hkk; iintro Hkk
  iapply (wp_load_cut (F := F) c) $$ Hv; iintro Hv
  rw [wp_ret]; imodintro
  iapply Hk
  isplitl [Hq]; · iexact Hq
  isplitl [Hkk]; · iexact Hkk
  isplitl [Hv] <;> iassumption

set_option maxHeartbeats 400000 in
/-- Heads of a partial output: loads only. -/
theorem part9_run (v226 : FVec F S512x1024 .f32) (v229 : Vec F S2048x128 .bf16) (v232 : FVec F S512x2048 .f32) (v235 : FVec F S512x2048 .f32) {T : _ → sProp 𝕄} :
    iprop(core c Q K V W)
      ⊢ iprop(((core c Q K V W) -∗ T ⟨k0_pay27 v226 v229 v232 v235 (cut (rO 2) W) (cut (rQ 1 3) Q) (cut (rK 3) K) (cut (rK 3) V) (cut (rO 3) W), (cut (rQ 1 4) Q), (cut (rK 4) K)⟩)
        -∗ wp frame (wpE (defs₀ (F := F)) 𝒱₀ (c : Thread nD τ) none) Set.univ (atBufs (k0_part9 (F := F)) v226 v229 v232 v235) T) := by
  simp only [k0_part9_eq_skeleton]; unfold k0_part9_skel
  simp only [semSignalWord, semWaitWord, Prog.lift, Prog.bind_op, Prog.bind_ret, Prog.pure_eq_ret, wp_deviceId]
  unfold core
  iintro ⟨Hq, Hkk, Hv, Hwo⟩ Hk
  iapply (wp_load_cut (F := F) c) $$ Hwo; iintro Hwo
  iapply (wp_load_cut (F := F) c) $$ Hq; iintro Hq
  iapply (wp_load_cut (F := F) c) $$ Hkk; iintro Hkk
  iapply (wp_load_cut (F := F) c) $$ Hv; iintro Hv
  iapply (wp_load_cut (F := F) c) $$ Hwo; iintro Hwo
  iapply (wp_load_cut (F := F) c) $$ Hq; iintro Hq
  iapply (wp_load_cut (F := F) c) $$ Hkk; iintro Hkk
  rw [wp_ret]; imodintro
  iapply Hk
  isplitl [Hq]; · iexact Hq
  isplitl [Hkk]; · iexact Hkk
  isplitl [Hv] <;> iassumption

set_option maxHeartbeats 400000 in
/-- Heads of a partial output: loads only. -/
theorem part10_run (v270 : FVec F S512x1024 .f32) (v271 : Vec F S512x128 .bf16) (v272 : Vec F S2048x128 .bf16) {T : _ → sProp 𝕄} :
    iprop(core c Q K V W)
      ⊢ iprop(((core c Q K V W) -∗ T ⟨k0_pay28 v270 v271 v272 (cut (rK 4) V) (cut (rO 4) W), k0_pay29 (cut (rQ 1 5) Q) (cut (rK 5) K) (cut (rK 5) V)⟩)
        -∗ wp frame (wpE (defs₀ (F := F)) 𝒱₀ (c : Thread nD τ) none) Set.univ (atBufs (k0_part10 (F := F)) v270 v271 v272) T) := by
  simp only [k0_part10_eq_skeleton]; unfold k0_part10_skel
  simp only [semSignalWord, semWaitWord, Prog.lift, Prog.bind_op, Prog.bind_ret, Prog.pure_eq_ret, wp_deviceId]
  unfold core
  iintro ⟨Hq, Hkk, Hv, Hwo⟩ Hk
  iapply (wp_load_cut (F := F) c) $$ Hv; iintro Hv
  iapply (wp_load_cut (F := F) c) $$ Hwo; iintro Hwo
  iapply (wp_load_cut (F := F) c) $$ Hq; iintro Hq
  iapply (wp_load_cut (F := F) c) $$ Hkk; iintro Hkk
  iapply (wp_load_cut (F := F) c) $$ Hv; iintro Hv
  rw [wp_ret]; imodintro
  iapply Hk
  isplitl [Hq]; · iexact Hq
  isplitl [Hkk]; · iexact Hkk
  isplitl [Hv] <;> iassumption

set_option maxHeartbeats 400000 in
/-- Heads of a partial output: loads only. -/
theorem part11_run (v292 : FVec F S512x1024 .f32) (v310 : FVec F S512x128 .bf16) {T : _ → sProp 𝕄} :
    iprop(core c Q K V W)
      ⊢ iprop(((core c Q K V W) -∗ T ⟨k0_pay30 v292 v310 (cut (rO 5) W) (cut (rQ 1 6) Q) (cut (rK 6) K) (cut (rK 6) V) (cut (rO 6) W), (cut (rK 7) V), k0_pay31 (cut (rQ 1 7) Q) (cut (rK 7) K), k0_pay32 (cut (rQ 1 7) Q) (cut (rK 7) K)⟩)
        -∗ wp frame (wpE (defs₀ (F := F)) 𝒱₀ (c : Thread nD τ) none) Set.univ (atBufs (k0_part11 (F := F)) v292 v310) T) := by
  simp only [k0_part11_eq_skeleton]; unfold k0_part11_skel
  simp only [semSignalWord, semWaitWord, Prog.lift, Prog.bind_op, Prog.bind_ret, Prog.pure_eq_ret, wp_deviceId]
  unfold core
  iintro ⟨Hq, Hkk, Hv, Hwo⟩ Hk
  iapply (wp_load_cut (F := F) c) $$ Hwo; iintro Hwo
  iapply (wp_load_cut (F := F) c) $$ Hq; iintro Hq
  iapply (wp_load_cut (F := F) c) $$ Hkk; iintro Hkk
  iapply (wp_load_cut (F := F) c) $$ Hv; iintro Hv
  iapply (wp_load_cut (F := F) c) $$ Hwo; iintro Hwo
  iapply (wp_load_cut (F := F) c) $$ Hq; iintro Hq
  iapply (wp_load_cut (F := F) c) $$ Hkk; iintro Hkk
  iapply (wp_load_cut (F := F) c) $$ Hv; iintro Hv
  rw [wp_ret]; imodintro
  iapply Hk
  isplitl [Hq]; · iexact Hq
  isplitl [Hkk]; · iexact Hkk
  isplitl [Hv] <;> iassumption

set_option maxHeartbeats 400000 in
/-- The first partial output is whole and starts to the right. -/
theorem part12_run (v7 : BitVec 32) (v336 : FVec F S512x1024 .f32) (v339 : Vec F S2048x128 .bf16) (v342 : FVec F S512x2048 .f32) (v345 : FVec F S512x2048 .f32) (f₀ : Blk F)
    (hv : k0_pay33 v336 v339 v342 v345 (cut (rO 7) W) = r0 m c) {T : _ → sProp 𝕄} :
    iprop(records m N₀ ∗ held rsM 3 c fullShare f₀ ∗ (∃ X, held (srcB 3) (dstJ 3) (nxt c) fullShare X) ∗ ready 3 c ∗ ow c (OR c 3) ∗ core c Q K V W)
      ⊢ iprop(((held rsM 3 c fullShare.right (r0 m c) ∗ sending 3 c ∗ arriving 3 c ∗ ow c (OR c 4) ∗ core c Q K V W) -∗ T ⟨k0_pay34 (F := F), (cut (rK 0) V), k0_pay35 (cut (rQ 2 0) Q) (cut (rK 0) K)⟩)
        -∗ wp frame (wpE (defs₀ (F := F)) 𝒱₀ (c : Thread nD τ) none) Set.univ (atBufs (k0_part12 (F := F)) c v7 v336 v339 v342 v345) T) := by
  simp only [k0_part12_eq_skeleton]; unfold k0_part12_skel
  simp only [semSignalWord, semWaitWord, Prog.lift, Prog.bind_op, Prog.bind_ret, Prog.pure_eq_ret, wp_deviceId]
  unfold core
  iintro ⟨#HR, Hf, Hd, Hr, Ho, ⟨Hq, Hkk, Hv, Hwo⟩⟩ Hk
  iapply (wp_load_cut (F := F) c) $$ Hwo; iintro Hwo
  iapply (wp_load_slot (F := F) rsM 3 c fullShare f₀) $$ Hf; iintro Hf
  iapply (wp_store_slot (F := F) rsM 3 c f₀ (k0_pay33 v336 v339 v342 v345 (cut (rO 7) W))) $$ Hf; iintro Hf
  rw [hv]
  iapply (wp_copy m N₀ c 3 _ (dev6_eq c) rsM 3 (r0 m c) rfl rfl rfl (a := 3) (b := 4) rfl rfl) $$ [Hf Hd Hr Ho]
  · isplitr; · iexact HR
    isplitl [Hf]; · iexact Hf
    isplitl [Hd]; · iexact Hd
    isplitl [Hr]; · iexact Hr
    iexact Ho
  iintro ⟨Hf, Hs, Ha, Ho⟩
  iapply (wp_load_cut (F := F) c) $$ Hq; iintro Hq
  iapply (wp_load_cut (F := F) c) $$ Hkk; iintro Hkk
  iapply (wp_load_cut (F := F) c) $$ Hv; iintro Hv
  rw [wp_ret]; imodintro
  iapply Hk
  isplitl [Hf]; · iexact Hf
  isplitl [Hs]; · iexact Hs
  isplitl [Ha]; · iexact Ha
  isplitl [Ho]; · iexact Ho
  isplitl [Hq]; · iexact Hq
  isplitl [Hkk]; · iexact Hkk
  isplitl [Hv] <;> iassumption

set_option maxHeartbeats 400000 in
/-- Heads of a partial output: loads only. -/
theorem part13_run (v373 : FVec F S512x1024 .f32) (v376 : Vec F S2048x128 .bf16) (v377 : FVec F S512x2048 .f32) {T : _ → sProp 𝕄} :
    iprop(core c Q K V W)
      ⊢ iprop(((core c Q K V W) -∗ T ⟨k0_pay36 v373 v376 v377 (cut (rO 0) W), k0_pay37 (cut (rQ 2 1) Q) (cut (rK 1) K) (cut (rK 1) V) (cut (rO 1) W)⟩)
        -∗ wp frame (wpE (defs₀ (F := F)) 𝒱₀ (c : Thread nD τ) none) Set.univ (atBufs (k0_part13 (F := F)) v373 v376 v377) T) := by
  simp only [k0_part13_eq_skeleton]; unfold k0_part13_skel
  simp only [semSignalWord, semWaitWord, Prog.lift, Prog.bind_op, Prog.bind_ret, Prog.pure_eq_ret, wp_deviceId]
  unfold core
  iintro ⟨Hq, Hkk, Hv, Hwo⟩ Hk
  iapply (wp_load_cut (F := F) c) $$ Hwo; iintro Hwo
  iapply (wp_load_cut (F := F) c) $$ Hq; iintro Hq
  iapply (wp_load_cut (F := F) c) $$ Hkk; iintro Hkk
  iapply (wp_load_cut (F := F) c) $$ Hv; iintro Hv
  iapply (wp_load_cut (F := F) c) $$ Hwo; iintro Hwo
  rw [wp_ret]; imodintro
  iapply Hk
  isplitl [Hq]; · iexact Hq
  isplitl [Hkk]; · iexact Hkk
  isplitl [Hv] <;> iassumption

set_option maxHeartbeats 400000 in
/-- Heads of a partial output: loads only. -/
theorem part14_run (v395 : FVec F S512x1024 .f32) (v416 : FVec F S512x1024 .f32) {T : _ → sProp 𝕄} :
    iprop(core c Q K V W)
      ⊢ iprop(((core c Q K V W) -∗ T ⟨k0_pay38 v395 v416 (cut (rQ 2 2) Q) (cut (rK 2) K) (cut (rK 2) V) (cut (rO 2) W), (cut (rK 3) V), k0_pay39 (cut (rQ 2 3) Q) (cut (rK 3) K), k0_pay40 (cut (rQ 2 3) Q) (cut (rK 3) K)⟩)
        -∗ wp frame (wpE (defs₀ (F := F)) 𝒱₀ (c : Thread nD τ) none) Set.univ (atBufs (k0_part14 (F := F)) v395 v416) T) := by
  simp only [k0_part14_eq_skeleton]; unfold k0_part14_skel
  simp only [semSignalWord, semWaitWord, Prog.lift, Prog.bind_op, Prog.bind_ret, Prog.pure_eq_ret, wp_deviceId]
  unfold core
  iintro ⟨Hq, Hkk, Hv, Hwo⟩ Hk
  iapply (wp_load_cut (F := F) c) $$ Hq; iintro Hq
  iapply (wp_load_cut (F := F) c) $$ Hkk; iintro Hkk
  iapply (wp_load_cut (F := F) c) $$ Hv; iintro Hv
  iapply (wp_load_cut (F := F) c) $$ Hwo; iintro Hwo
  iapply (wp_load_cut (F := F) c) $$ Hq; iintro Hq
  iapply (wp_load_cut (F := F) c) $$ Hkk; iintro Hkk
  iapply (wp_load_cut (F := F) c) $$ Hv; iintro Hv
  rw [wp_ret]; imodintro
  iapply Hk
  isplitl [Hq]; · iexact Hq
  isplitl [Hkk]; · iexact Hkk
  isplitl [Hv] <;> iassumption

set_option maxHeartbeats 400000 in
/-- Heads of a partial output: loads only. -/
theorem part15_run (v439 : FVec F S512x1024 .f32) (v442 : Vec F S2048x128 .bf16) (v450 : FVec F S512x2048 .f32) (v452 : FVec F S512x1 .f32) {T : _ → sProp 𝕄} :
    iprop(core c Q K V W)
      ⊢ iprop(((core c Q K V W) -∗ T ⟨k0_pay41 v439 v442 v450 v452 (cut (rO 3) W) (cut (rQ 2 4) Q) (cut (rK 4) K) (cut (rK 4) V) (cut (rO 4) W), (cut (rK 5) V), k0_pay42 (cut (rQ 2 5) Q) (cut (rK 5) K)⟩)
        -∗ wp frame (wpE (defs₀ (F := F)) 𝒱₀ (c : Thread nD τ) none) Set.univ (atBufs (k0_part15 (F := F)) v439 v442 v450 v452) T) := by
  simp only [k0_part15_eq_skeleton]; unfold k0_part15_skel
  simp only [semSignalWord, semWaitWord, Prog.lift, Prog.bind_op, Prog.bind_ret, Prog.pure_eq_ret, wp_deviceId]
  unfold core
  iintro ⟨Hq, Hkk, Hv, Hwo⟩ Hk
  iapply (wp_load_cut (F := F) c) $$ Hwo; iintro Hwo
  iapply (wp_load_cut (F := F) c) $$ Hq; iintro Hq
  iapply (wp_load_cut (F := F) c) $$ Hkk; iintro Hkk
  iapply (wp_load_cut (F := F) c) $$ Hv; iintro Hv
  iapply (wp_load_cut (F := F) c) $$ Hwo; iintro Hwo
  iapply (wp_load_cut (F := F) c) $$ Hq; iintro Hq
  iapply (wp_load_cut (F := F) c) $$ Hkk; iintro Hkk
  iapply (wp_load_cut (F := F) c) $$ Hv; iintro Hv
  rw [wp_ret]; imodintro
  iapply Hk
  isplitl [Hq]; · iexact Hq
  isplitl [Hkk]; · iexact Hkk
  isplitl [Hv] <;> iassumption

set_option maxHeartbeats 400000 in
/-- Heads of a partial output: loads only. -/
theorem part16_run (v483 : FVec F S512x1024 .f32) (v486 : Vec F S2048x128 .bf16) (v487 : FVec F S512x2048 .f32) {T : _ → sProp 𝕄} :
    iprop(core c Q K V W)
      ⊢ iprop(((core c Q K V W) -∗ T ⟨k0_pay43 v483 v486 v487 (cut (rO 5) W), k0_pay44 (cut (rQ 2 6) Q) (cut (rK 6) K) (cut (rK 6) V) (cut (rO 6) W)⟩)
        -∗ wp frame (wpE (defs₀ (F := F)) 𝒱₀ (c : Thread nD τ) none) Set.univ (atBufs (k0_part16 (F := F)) v483 v486 v487) T) := by
  simp only [k0_part16_eq_skeleton]; unfold k0_part16_skel
  simp only [semSignalWord, semWaitWord, Prog.lift, Prog.bind_op, Prog.bind_ret, Prog.pure_eq_ret, wp_deviceId]
  unfold core
  iintro ⟨Hq, Hkk, Hv, Hwo⟩ Hk
  iapply (wp_load_cut (F := F) c) $$ Hwo; iintro Hwo
  iapply (wp_load_cut (F := F) c) $$ Hq; iintro Hq
  iapply (wp_load_cut (F := F) c) $$ Hkk; iintro Hkk
  iapply (wp_load_cut (F := F) c) $$ Hv; iintro Hv
  iapply (wp_load_cut (F := F) c) $$ Hwo; iintro Hwo
  rw [wp_ret]; imodintro
  iapply Hk
  isplitl [Hq]; · iexact Hq
  isplitl [Hkk]; · iexact Hkk
  isplitl [Hv] <;> iassumption

set_option maxHeartbeats 400000 in
/-- The last heads; copy 3's source is free again. -/
theorem part17_run (v7 : BitVec 32) (v505 : FVec F S512x1024 .f32) (v526 : FVec F S512x1024 .f32) {T : _ → sProp 𝕄} :
    iprop(records m N₀ ∗ levAts L lv ∗ held rsM 3 c fullShare.right (r0 m c) ∗ sending 3 c ∗ ow c (OR c 4) ∗ core c Q K V W)
      ⊢ iprop(((held rsM 3 c fullShare (r0 m c) ∗ semVal (sendCell 3 c) 0 ∗ ow c (OR c 4) ∗ core c Q K V W) -∗ T ⟨k0_pay45 v505 v526 (cut (rQ 2 7) Q) (cut (rK 7) K) (cut (rK 7) V) (cut (rO 7) W), (Scalar.muli v7 1#32), 0#32⟩)
        -∗ wp frame (wpE (defs₀ (F := F)) 𝒱₀ (c : Thread nD τ) none) Set.univ (atBufs (k0_part17 (F := F)) v7 v505 v526) T) := by
  simp only [k0_part17_eq_skeleton]; unfold k0_part17_skel
  simp only [semSignalWord, semWaitWord, Prog.lift, Prog.bind_op, Prog.bind_ret, Prog.pure_eq_ret, wp_deviceId]
  unfold core
  iintro ⟨#HR, #Hlev, Hf, Hs, Ho, ⟨Hq, Hkk, Hv, Hwo⟩⟩ Hk
  iapply (wp_load_cut (F := F) c) $$ Hq; iintro Hq
  iapply (wp_load_cut (F := F) c) $$ Hkk; iintro Hkk
  iapply (wp_load_cut (F := F) c) $$ Hv; iintro Hv
  iapply (wp_load_cut (F := F) c) $$ Hwo; iintro Hwo
  iapply (wp_wait_send m N₀ c 3 rsM 3 (r0 m c) rfl rfl rfl (src_credit 3) 4) $$ [Hf Hs Ho]
  · isplitr; · iexact HR
    isplitr; · iexact Hlev
    isplitl [Hf]; · iexact Hf
    isplitl [Hs] <;> iassumption
  iintro ⟨Hf, Hz, Ho⟩
  rw [wp_ret]; imodintro
  iapply Hk
  isplitl [Hf]; · iexact Hf
  isplitl [Hz]; · iexact Hz
  isplitl [Ho]; · iexact Ho
  isplitl [Hq]; · iexact Hq
  isplitl [Hkk]; · iexact Hkk
  isplitl [Hv] <;> iassumption

set_option maxHeartbeats 400000 in
/-- Copy 3 has arrived; with the device's own partial output added it goes on to the right. -/
theorem part18_run (v7 : BitVec 32) (v549 : FVec F S512x1024 .f32) (v556 : BitVec 32) (c0_i32_413 : BitVec 32) (hv : v549 = part m c 2) {T : _ → sProp 𝕄} :
    iprop(records m N₀ ∗ levAts L lv ∗ arriving 3 c ∗ (∃ X, held (srcB 4) (dstJ 4) (nxt c) fullShare X) ∗ ready 4 c ∗ ow c (OR c 4) ∗ core c Q K V W)
      ⊢ iprop(((semVal (recvCell 3 c) 0 ∗ held rsM 0 c fullShare.right (r1 m c) ∗ sending 4 c ∗ arriving 4 c ∗ ow c (OR c 5) ∗ core c Q K V W) -∗ T ⟨k0_pay47 (F := F), (cut (rQ 3 0) Q), (cut (rK 0) K), (cut (rK 0) V), (constant S512x2048 .f32 0x00000000#32)⟩)
        -∗ wp frame (wpE (defs₀ (F := F)) 𝒱₀ (c : Thread nD τ) none) Set.univ (atBufs (k0_part18 (F := F)) c v7 v549 v556 c0_i32_413) T) := by
  simp only [k0_part18_eq_skeleton]; unfold k0_part18_skel
  simp only [semSignalWord, semWaitWord, Prog.lift, Prog.bind_op, Prog.bind_ret, Prog.pure_eq_ret, wp_deviceId]
  unfold core
  iintro ⟨#HR, #Hlev, Ha, Hd, Hr, Ho, ⟨Hq, Hkk, Hv, Hwo⟩⟩ Hk
  iapply (wp_wait_recv m N₀ c 3 rsM 0 (r0 m (prv c)) 4 rfl rfl rfl rfl (dst_credit 3)) $$ [Ha Ho]
  · isplitr; · iexact HR
    isplitr; · iexact Hlev
    isplitl [Ha] <;> iassumption
  iintro ⟨Hf, Hz, Ho⟩
  iapply (wp_load_slot (F := F) rsM 0 c fullShare (r0 m (prv c))) $$ Hf; iintro Hf
  iapply (wp_load_slot (F := F) rsM 0 c fullShare (r0 m (prv c))) $$ Hf; iintro Hf
  rw [hv]
  iapply (wp_store_slot (F := F) rsM 0 c (r0 m (prv c)) (r1 m c)) $$ Hf; iintro Hf
  iapply (wp_copy m N₀ c 4 _ (dev7_eq c) rsM 0 (r1 m c) rfl rfl rfl (a := 4) (b := 5) rfl rfl) $$ [Hf Hd Hr Ho]
  · isplitr; · iexact HR
    isplitl [Hf]; · iexact Hf
    isplitl [Hd]; · iexact Hd
    isplitl [Hr]; · iexact Hr
    iexact Ho
  iintro ⟨Hf, Hs, Ha, Ho⟩
  iapply (wp_load_cut (F := F) c) $$ Hq; iintro Hq
  iapply (wp_load_cut (F := F) c) $$ Hkk; iintro Hkk
  iapply (wp_load_cut (F := F) c) $$ Hv; iintro Hv
  rw [wp_ret]; imodintro
  iapply Hk
  isplitl [Hz]; · iexact Hz
  isplitl [Hf]; · iexact Hf
  isplitl [Hs]; · iexact Hs
  isplitl [Ha]; · iexact Ha
  isplitl [Ho]; · iexact Ho
  isplitl [Hq]; · iexact Hq
  isplitl [Hkk]; · iexact Hkk
  isplitl [Hv] <;> iassumption

set_option maxHeartbeats 400000 in
/-- Heads of a partial output: loads only. -/
theorem part19_run (v582 : FVec F S512x1024 .f32) (v583 : Vec F S512x128 .bf16) (v584 : Vec F S2048x128 .bf16) (v585 : Vec F S2048x128 .bf16) (cst_441 : FVec F S512x2048 .f32) {T : _ → sProp 𝕄} :
    iprop(core c Q K V W)
      ⊢ iprop(((core c Q K V W) -∗ T ⟨k0_pay48 v582 v583 v584 v585 cst_441 (cut (rO 0) W), k0_pay49 (cut (rQ 3 1) Q) (cut (rK 1) K) (cut (rK 1) V), k0_pay50 (cut (rO 1) W), (constant S512x1024 .f32 0x00000000#32)⟩)
        -∗ wp frame (wpE (defs₀ (F := F)) 𝒱₀ (c : Thread nD τ) none) Set.univ (atBufs (k0_part19 (F := F)) v582 v583 v584 v585 cst_441) T) := by
  simp only [k0_part19_eq_skeleton]; unfold k0_part19_skel
  simp only [semSignalWord, semWaitWord, Prog.lift, Prog.bind_op, Prog.bind_ret, Prog.pure_eq_ret, wp_deviceId]
  unfold core
  iintro ⟨Hq, Hkk, Hv, Hwo⟩ Hk
  iapply (wp_load_cut (F := F) c) $$ Hwo; iintro Hwo
  iapply (wp_load_cut (F := F) c) $$ Hq; iintro Hq
  iapply (wp_load_cut (F := F) c) $$ Hkk; iintro Hkk
  iapply (wp_load_cut (F := F) c) $$ Hv; iintro Hv
  iapply (wp_load_cut (F := F) c) $$ Hwo; iintro Hwo
  rw [wp_ret]; imodintro
  iapply Hk
  isplitl [Hq]; · iexact Hq
  isplitl [Hkk]; · iexact Hkk
  isplitl [Hv] <;> iassumption

set_option maxHeartbeats 400000 in
/-- Heads of a partial output: loads only. -/
theorem part20_run (v604 : FVec F S512x1024 .f32) (v622 : FVec F S512x128 .bf16) (v624 : FVec F S128x1024 .bf16) (cst_462 : FVec F S512x1024 .f32) {T : _ → sProp 𝕄} :
    iprop(core c Q K V W)
      ⊢ iprop(((core c Q K V W) -∗ T ⟨k0_pay51 v604 v622 v624 cst_462 (cut (rQ 3 2) Q) (cut (rK 2) K) (cut (rK 2) V) (cut (rO 2) W), (cut (rK 3) V), k0_pay52 (cut (rQ 3 3) Q) (cut (rK 3) K), k0_pay53 (cut (rQ 3 3) Q) (cut (rK 3) K)⟩)
        -∗ wp frame (wpE (defs₀ (F := F)) 𝒱₀ (c : Thread nD τ) none) Set.univ (atBufs (k0_part20 (F := F)) v604 v622 v624 cst_462) T) := by
  simp only [k0_part20_eq_skeleton]; unfold k0_part20_skel
  simp only [semSignalWord, semWaitWord, Prog.lift, Prog.bind_op, Prog.bind_ret, Prog.pure_eq_ret, wp_deviceId]
  unfold core
  iintro ⟨Hq, Hkk, Hv, Hwo⟩ Hk
  iapply (wp_load_cut (F := F) c) $$ Hq; iintro Hq
  iapply (wp_load_cut (F := F) c) $$ Hkk; iintro Hkk
  iapply (wp_load_cut (F := F) c) $$ Hv; iintro Hv
  iapply (wp_load_cut (F := F) c) $$ Hwo; iintro Hwo
  iapply (wp_load_cut (F := F) c) $$ Hq; iintro Hq
  iapply (wp_load_cut (F := F) c) $$ Hkk; iintro Hkk
  iapply (wp_load_cut (F := F) c) $$ Hv; iintro Hv
  rw [wp_ret]; imodintro
  iapply Hk
  isplitl [Hq]; · iexact Hq
  isplitl [Hkk]; · iexact Hkk
  isplitl [Hv] <;> iassumption

set_option maxHeartbeats 400000 in
/-- Heads of a partial output: loads only. -/
theorem part21_run (v648 : FVec F S512x1024 .f32) (v651 : Vec F S2048x128 .bf16) (v659 : FVec F S512x2048 .f32) (v660 : FVec F S512 .f32) {T : _ → sProp 𝕄} :
    iprop(core c Q K V W)
      ⊢ iprop(((core c Q K V W) -∗ T ⟨k0_pay54 v648 v651 v659 v660 (cut (rO 3) W) (cut (rQ 3 4) Q) (cut (rK 4) K) (cut (rK 4) V) (cut (rO 4) W), (cut (rQ 3 5) Q), (cut (rK 5) K), (cut (rK 5) V), (constant S512x2048 .f32 0x00000000#32)⟩)
        -∗ wp frame (wpE (defs₀ (F := F)) 𝒱₀ (c : Thread nD τ) none) Set.univ (atBufs (k0_part21 (F := F)) v648 v651 v659 v660) T) := by
  simp only [k0_part21_eq_skeleton]; unfold k0_part21_skel
  simp only [semSignalWord, semWaitWord, Prog.lift, Prog.bind_op, Prog.bind_ret, Prog.pure_eq_ret, wp_deviceId]
  unfold core
  iintro ⟨Hq, Hkk, Hv, Hwo⟩ Hk
  iapply (wp_load_cut (F := F) c) $$ Hwo; iintro Hwo
  iapply (wp_load_cut (F := F) c) $$ Hq; iintro Hq
  iapply (wp_load_cut (F := F) c) $$ Hkk; iintro Hkk
  iapply (wp_load_cut (F := F) c) $$ Hv; iintro Hv
  iapply (wp_load_cut (F := F) c) $$ Hwo; iintro Hwo
  iapply (wp_load_cut (F := F) c) $$ Hq; iintro Hq
  iapply (wp_load_cut (F := F) c) $$ Hkk; iintro Hkk
  iapply (wp_load_cut (F := F) c) $$ Hv; iintro Hv
  rw [wp_ret]; imodintro
  iapply Hk
  isplitl [Hq]; · iexact Hq
  isplitl [Hkk]; · iexact Hkk
  isplitl [Hv] <;> iassumption

set_option maxHeartbeats 400000 in
/-- Heads of a partial output: loads only. -/
theorem part22_run (v692 : FVec F S512x1024 .f32) (v693 : Vec F S512x128 .bf16) (v694 : Vec F S2048x128 .bf16) (v695 : Vec F S2048x128 .bf16) (cst_511 : FVec F S512x2048 .f32) {T : _ → sProp 𝕄} :
    iprop(core c Q K V W)
      ⊢ iprop(((core c Q K V W) -∗ T ⟨k0_pay55 v692 v693 v694 v695 cst_511 (cut (rO 5) W), k0_pay56 (cut (rQ 3 6) Q) (cut (rK 6) K) (cut (rK 6) V), k0_pay57 (cut (rO 6) W), (constant S512x1024 .f32 0x00000000#32)⟩)
        -∗ wp frame (wpE (defs₀ (F := F)) 𝒱₀ (c : Thread nD τ) none) Set.univ (atBufs (k0_part22 (F := F)) v692 v693 v694 v695 cst_511) T) := by
  simp only [k0_part22_eq_skeleton]; unfold k0_part22_skel
  simp only [semSignalWord, semWaitWord, Prog.lift, Prog.bind_op, Prog.bind_ret, Prog.pure_eq_ret, wp_deviceId]
  unfold core
  iintro ⟨Hq, Hkk, Hv, Hwo⟩ Hk
  iapply (wp_load_cut (F := F) c) $$ Hwo; iintro Hwo
  iapply (wp_load_cut (F := F) c) $$ Hq; iintro Hq
  iapply (wp_load_cut (F := F) c) $$ Hkk; iintro Hkk
  iapply (wp_load_cut (F := F) c) $$ Hv; iintro Hv
  iapply (wp_load_cut (F := F) c) $$ Hwo; iintro Hwo
  rw [wp_ret]; imodintro
  iapply Hk
  isplitl [Hq]; · iexact Hq
  isplitl [Hkk]; · iexact Hkk
  isplitl [Hv] <;> iassumption

set_option maxHeartbeats 400000 in
/-- The last heads; copy 4's source is free again. -/
theorem part23_run (v7 : BitVec 32) (v714 : FVec F S512x1024 .f32) (v732 : FVec F S512x128 .bf16) (v734 : FVec F S128x1024 .bf16) (cst_532 : FVec F S512x1024 .f32) {T : _ → sProp 𝕄} :
    iprop(records m N₀ ∗ levAts L lv ∗ held rsM 0 c fullShare.right (r1 m c) ∗ sending 4 c ∗ ow c (OR c 5) ∗ core c Q K V W)
      ⊢ iprop(((held rsM 0 c fullShare (r1 m c) ∗ semVal (sendCell 4 c) 0 ∗ ow c (OR c 5) ∗ core c Q K V W) -∗ T ⟨k0_pay58 v714 v732 v734 cst_532 (cut (rQ 3 7) Q) (cut (rK 7) K) (cut (rK 7) V) (cut (rO 7) W), (Scalar.muli v7 1#32)⟩)
        -∗ wp frame (wpE (defs₀ (F := F)) 𝒱₀ (c : Thread nD τ) none) Set.univ (atBufs (k0_part23 (F := F)) v7 v714 v732 v734 cst_532) T) := by
  simp only [k0_part23_eq_skeleton]; unfold k0_part23_skel
  simp only [semSignalWord, semWaitWord, Prog.lift, Prog.bind_op, Prog.bind_ret, Prog.pure_eq_ret, wp_deviceId]
  unfold core
  iintro ⟨#HR, #Hlev, Hf, Hs, Ho, ⟨Hq, Hkk, Hv, Hwo⟩⟩ Hk
  iapply (wp_load_cut (F := F) c) $$ Hq; iintro Hq
  iapply (wp_load_cut (F := F) c) $$ Hkk; iintro Hkk
  iapply (wp_load_cut (F := F) c) $$ Hv; iintro Hv
  iapply (wp_load_cut (F := F) c) $$ Hwo; iintro Hwo
  iapply (wp_wait_send m N₀ c 4 rsM 0 (r1 m c) rfl rfl rfl (src_credit 4) 5) $$ [Hf Hs Ho]
  · isplitr; · iexact HR
    isplitr; · iexact Hlev
    isplitl [Hf]; · iexact Hf
    isplitl [Hs] <;> iassumption
  iintro ⟨Hf, Hz, Ho⟩
  rw [wp_ret]; imodintro
  iapply Hk
  isplitl [Hf]; · iexact Hf
  isplitl [Hz]; · iexact Hz
  isplitl [Ho]; · iexact Ho
  isplitl [Hq]; · iexact Hq
  isplitl [Hkk]; · iexact Hkk
  isplitl [Hv] <;> iassumption

set_option maxHeartbeats 400000 in
/-- Copy 4 has arrived; with the device's own partial output added it goes on to the right. -/
theorem part24_run (v7 : BitVec 32) (v758 : FVec F S512x1024 .f32) (v765 : BitVec 32) (hv : v758 = part m c 3) {T : _ → sProp 𝕄} :
    iprop(records m N₀ ∗ levAts L lv ∗ arriving 4 c ∗ (∃ X, held (srcB 5) (dstJ 5) (nxt c) fullShare X) ∗ ready 5 c ∗ ow c (OR c 5) ∗ core c Q K V W)
      ⊢ iprop(((semVal (recvCell 4 c) 0 ∗ held rsM 1 c fullShare.right (r2 m c) ∗ sending 5 c ∗ arriving 5 c ∗ ow c (OR c 6) ∗ core c Q K V W) -∗ T ⟨k0_pay60 (F := F), (cut (rQ 0 0) Q), (cut (rK 0) K), (cut (rK 0) V)⟩)
        -∗ wp frame (wpE (defs₀ (F := F)) 𝒱₀ (c : Thread nD τ) none) Set.univ (atBufs (k0_part24 (F := F)) c v7 v758 v765) T) := by
  simp only [k0_part24_eq_skeleton]; unfold k0_part24_skel
  simp only [semSignalWord, semWaitWord, Prog.lift, Prog.bind_op, Prog.bind_ret, Prog.pure_eq_ret, wp_deviceId]
  unfold core
  iintro ⟨#HR, #Hlev, Ha, Hd, Hr, Ho, ⟨Hq, Hkk, Hv, Hwo⟩⟩ Hk
  iapply (wp_wait_recv m N₀ c 4 rsM 1 (r1 m (prv c)) 5 rfl rfl rfl rfl (dst_credit 4)) $$ [Ha Ho]
  · isplitr; · iexact HR
    isplitr; · iexact Hlev
    isplitl [Ha] <;> iassumption
  iintro ⟨Hf, Hz, Ho⟩
  iapply (wp_load_slot (F := F) rsM 1 c fullShare (r1 m (prv c))) $$ Hf; iintro Hf
  iapply (wp_load_slot (F := F) rsM 1 c fullShare (r1 m (prv c))) $$ Hf; iintro Hf
  rw [hv]
  iapply (wp_store_slot (F := F) rsM 1 c (r1 m (prv c)) (r2 m c)) $$ Hf; iintro Hf
  iapply (wp_copy m N₀ c 5 _ (dev8_eq c) rsM 1 (r2 m c) rfl rfl rfl (a := 5) (b := 6) rfl rfl) $$ [Hf Hd Hr Ho]
  · isplitr; · iexact HR
    isplitl [Hf]; · iexact Hf
    isplitl [Hd]; · iexact Hd
    isplitl [Hr]; · iexact Hr
    iexact Ho
  iintro ⟨Hf, Hs, Ha, Ho⟩
  iapply (wp_load_cut (F := F) c) $$ Hq; iintro Hq
  iapply (wp_load_cut (F := F) c) $$ Hkk; iintro Hkk
  iapply (wp_load_cut (F := F) c) $$ Hv; iintro Hv
  rw [wp_ret]; imodintro
  iapply Hk
  isplitl [Hz]; · iexact Hz
  isplitl [Hf]; · iexact Hf
  isplitl [Hs]; · iexact Hs
  isplitl [Ha]; · iexact Ha
  isplitl [Ho]; · iexact Ho
  isplitl [Hq]; · iexact Hq
  isplitl [Hkk]; · iexact Hkk
  isplitl [Hv] <;> iassumption

set_option maxHeartbeats 400000 in
/-- Heads of a partial output: loads only. -/
theorem part25_run (v791 : FVec F S512x1024 .f32) (v792 : Vec F S512x128 .bf16) (v793 : Vec F S2048x128 .bf16) (v794 : Vec F S2048x128 .bf16) {T : _ → sProp 𝕄} :
    iprop(core c Q K V W)
      ⊢ iprop(((core c Q K V W) -∗ T ⟨k0_pay61 v791 v792 v793 v794 (cut (rO 0) W), k0_pay62 (cut (rQ 0 1) Q) (cut (rK 1) K) (cut (rK 1) V), k0_pay63 (cut (rO 1) W)⟩)
        -∗ wp frame (wpE (defs₀ (F := F)) 𝒱₀ (c : Thread nD τ) none) Set.univ (atBufs (k0_part25 (F := F)) v791 v792 v793 v794) T) := by
  simp only [k0_part25_eq_skeleton]; unfold k0_part25_skel
  simp only [semSignalWord, semWaitWord, Prog.lift, Prog.bind_op, Prog.bind_ret, Prog.pure_eq_ret, wp_deviceId]
  unfold core
  iintro ⟨Hq, Hkk, Hv, Hwo⟩ Hk
  iapply (wp_load_cut (F := F) c) $$ Hwo; iintro Hwo
  iapply (wp_load_cut (F := F) c) $$ Hq; iintro Hq
  iapply (wp_load_cut (F := F) c) $$ Hkk; iintro Hkk
  iapply (wp_load_cut (F := F) c) $$ Hv; iintro Hv
  iapply (wp_load_cut (F := F) c) $$ Hwo; iintro Hwo
  rw [wp_ret]; imodintro
  iapply Hk
  isplitl [Hq]; · iexact Hq
  isplitl [Hkk]; · iexact Hkk
  isplitl [Hv] <;> iassumption

set_option maxHeartbeats 400000 in
/-- Heads of a partial output: loads only. -/
theorem part26_run (v813 : FVec F S512x1024 .f32) (v831 : FVec F S512x128 .bf16) (v833 : FVec F S128x1024 .bf16) {T : _ → sProp 𝕄} :
    iprop(core c Q K V W)
      ⊢ iprop(((core c Q K V W) -∗ T ⟨k0_pay64 v813 v831 v833 (cut (rQ 0 2) Q) (cut (rK 2) K) (cut (rK 2) V) (cut (rO 2) W), (cut (rK 3) V), k0_pay65 (cut (rQ 0 3) Q) (cut (rK 3) K)⟩)
        -∗ wp frame (wpE (defs₀ (F := F)) 𝒱₀ (c : Thread nD τ) none) Set.univ (atBufs (k0_part26 (F := F)) v813 v831 v833) T) := by
  simp only [k0_part26_eq_skeleton]; unfold k0_part26_skel
  simp only [semSignalWord, semWaitWord, Prog.lift, Prog.bind_op, Prog.bind_ret, Prog.pure_eq_ret, wp_deviceId]
  unfold core
  iintro ⟨Hq, Hkk, Hv, Hwo⟩ Hk
  iapply (wp_load_cut (F := F) c) $$ Hq; iintro Hq
  iapply (wp_load_cut (F := F) c) $$ Hkk; iintro Hkk
  iapply (wp_load_cut (F := F) c) $$ Hv; iintro Hv
  iapply (wp_load_cut (F := F) c) $$ Hwo; iintro Hwo
  iapply (wp_load_cut (F := F) c) $$ Hq; iintro Hq
  iapply (wp_load_cut (F := F) c) $$ Hkk; iintro Hkk
  iapply (wp_load_cut (F := F) c) $$ Hv; iintro Hv
  rw [wp_ret]; imodintro
  iapply Hk
  isplitl [Hq]; · iexact Hq
  isplitl [Hkk]; · iexact Hkk
  isplitl [Hv] <;> iassumption

set_option maxHeartbeats 400000 in
/-- Heads of a partial output: loads only. -/
theorem part27_run (v857 : FVec F S512x1024 .f32) (v860 : Vec F S2048x128 .bf16) (v868 : FVec F S512x2048 .f32) {T : _ → sProp 𝕄} :
    iprop(core c Q K V W)
      ⊢ iprop(((core c Q K V W) -∗ T ⟨k0_pay66 v857 v860 v868 (cut (rO 3) W) (cut (rQ 0 4) Q) (cut (rK 4) K) (cut (rK 4) V) (cut (rO 4) W), (cut (rQ 0 5) Q), (cut (rK 5) K), (cut (rK 5) V)⟩)
        -∗ wp frame (wpE (defs₀ (F := F)) 𝒱₀ (c : Thread nD τ) none) Set.univ (atBufs (k0_part27 (F := F)) v857 v860 v868) T) := by
  simp only [k0_part27_eq_skeleton]; unfold k0_part27_skel
  simp only [semSignalWord, semWaitWord, Prog.lift, Prog.bind_op, Prog.bind_ret, Prog.pure_eq_ret, wp_deviceId]
  unfold core
  iintro ⟨Hq, Hkk, Hv, Hwo⟩ Hk
  iapply (wp_load_cut (F := F) c) $$ Hwo; iintro Hwo
  iapply (wp_load_cut (F := F) c) $$ Hq; iintro Hq
  iapply (wp_load_cut (F := F) c) $$ Hkk; iintro Hkk
  iapply (wp_load_cut (F := F) c) $$ Hv; iintro Hv
  iapply (wp_load_cut (F := F) c) $$ Hwo; iintro Hwo
  iapply (wp_load_cut (F := F) c) $$ Hq; iintro Hq
  iapply (wp_load_cut (F := F) c) $$ Hkk; iintro Hkk
  iapply (wp_load_cut (F := F) c) $$ Hv; iintro Hv
  rw [wp_ret]; imodintro
  iapply Hk
  isplitl [Hq]; · iexact Hq
  isplitl [Hkk]; · iexact Hkk
  isplitl [Hv] <;> iassumption

set_option maxHeartbeats 400000 in
/-- Heads of a partial output: loads only. -/
theorem part28_run (v901 : FVec F S512x1024 .f32) (v902 : Vec F S512x128 .bf16) (v903 : Vec F S2048x128 .bf16) (v904 : Vec F S2048x128 .bf16) {T : _ → sProp 𝕄} :
    iprop(core c Q K V W)
      ⊢ iprop(((core c Q K V W) -∗ T ⟨k0_pay67 v901 v902 v903 v904 (cut (rO 5) W), k0_pay68 (cut (rQ 0 6) Q) (cut (rK 6) K) (cut (rK 6) V), k0_pay69 (cut (rO 6) W)⟩)
        -∗ wp frame (wpE (defs₀ (F := F)) 𝒱₀ (c : Thread nD τ) none) Set.univ (atBufs (k0_part28 (F := F)) v901 v902 v903 v904) T) := by
  simp only [k0_part28_eq_skeleton]; unfold k0_part28_skel
  simp only [semSignalWord, semWaitWord, Prog.lift, Prog.bind_op, Prog.bind_ret, Prog.pure_eq_ret, wp_deviceId]
  unfold core
  iintro ⟨Hq, Hkk, Hv, Hwo⟩ Hk
  iapply (wp_load_cut (F := F) c) $$ Hwo; iintro Hwo
  iapply (wp_load_cut (F := F) c) $$ Hq; iintro Hq
  iapply (wp_load_cut (F := F) c) $$ Hkk; iintro Hkk
  iapply (wp_load_cut (F := F) c) $$ Hv; iintro Hv
  iapply (wp_load_cut (F := F) c) $$ Hwo; iintro Hwo
  rw [wp_ret]; imodintro
  iapply Hk
  isplitl [Hq]; · iexact Hq
  isplitl [Hkk]; · iexact Hkk
  isplitl [Hv] <;> iassumption

set_option maxHeartbeats 400000 in
/-- The last heads; copy 5's source is free again. -/
theorem part29_run (v923 : FVec F S512x1024 .f32) (v941 : FVec F S512x128 .bf16) (v943 : FVec F S128x1024 .bf16) {T : _ → sProp 𝕄} :
    iprop(records m N₀ ∗ levAts L lv ∗ held rsM 1 c fullShare.right (r2 m c) ∗ sending 5 c ∗ ow c (OR c 6) ∗ core c Q K V W)
      ⊢ iprop(((held rsM 1 c fullShare (r2 m c) ∗ semVal (sendCell 5 c) 0 ∗ ow c (OR c 6) ∗ core c Q K V W) -∗ T ⟨k0_pay70 v923 v941 v943 (cut (rQ 0 7) Q) (cut (rK 7) K) (cut (rK 7) V) (cut (rO 7) W), 1#32⟩)
        -∗ wp frame (wpE (defs₀ (F := F)) 𝒱₀ (c : Thread nD τ) none) Set.univ (atBufs (k0_part29 (F := F)) v923 v941 v943) T) := by
  simp only [k0_part29_eq_skeleton]; unfold k0_part29_skel
  simp only [semSignalWord, semWaitWord, Prog.lift, Prog.bind_op, Prog.bind_ret, Prog.pure_eq_ret, wp_deviceId]
  unfold core
  iintro ⟨#HR, #Hlev, Hf, Hs, Ho, ⟨Hq, Hkk, Hv, Hwo⟩⟩ Hk
  iapply (wp_load_cut (F := F) c) $$ Hq; iintro Hq
  iapply (wp_load_cut (F := F) c) $$ Hkk; iintro Hkk
  iapply (wp_load_cut (F := F) c) $$ Hv; iintro Hv
  iapply (wp_load_cut (F := F) c) $$ Hwo; iintro Hwo
  iapply (wp_wait_send m N₀ c 5 rsM 1 (r2 m c) rfl rfl rfl (src_credit 5) 6) $$ [Hf Hs Ho]
  · isplitr; · iexact HR
    isplitr; · iexact Hlev
    isplitl [Hf]; · iexact Hf
    isplitl [Hs] <;> iassumption
  iintro ⟨Hf, Hz, Ho⟩
  rw [wp_ret]; imodintro
  iapply Hk
  isplitl [Hf]; · iexact Hf
  isplitl [Hz]; · iexact Hz
  isplitl [Ho]; · iexact Ho
  isplitl [Hq]; · iexact Hq
  isplitl [Hkk]; · iexact Hkk
  isplitl [Hv] <;> iassumption

/-! ## The parts' values, put together -/

/-- The first partial output, as it is sent. -/
theorem chain1 : k0_pay33 (k0_pay30 (k0_pay28 (k0_pay27 (k0_pay24 (k0_pay22) (k0_pay23 (cut (rQ 1 0) Q) (cut (rK 0) K) (cut (rK 0) V)) (cut (rO 0) W) (cut (rQ 1 1) Q) (cut (rK 1) K) (cut (rK 1) V) (cut (rO 1) W)) ((cut (rK 2) V)) (k0_pay25 (cut (rQ 1 2) Q) (cut (rK 2) K)) (k0_pay26 (cut (rQ 1 2) Q) (cut (rK 2) K)) (cut (rO 2) W) (cut (rQ 1 3) Q) (cut (rK 3) K) (cut (rK 3) V) (cut (rO 3) W)) ((cut (rQ 1 4) Q)) ((cut (rK 4) K)) (cut (rK 4) V) (cut (rO 4) W)) (k0_pay29 (cut (rQ 1 5) Q) (cut (rK 5) K) (cut (rK 5) V)) (cut (rO 5) W) (cut (rQ 1 6) Q) (cut (rK 6) K) (cut (rK 6) V) (cut (rO 6) W)) ((cut (rK 7) V)) (k0_pay31 (cut (rQ 1 7) Q) (cut (rK 7) K)) (k0_pay32 (cut (rQ 1 7) Q) (cut (rK 7) K)) (cut (rO 7) W)
    = sendOf (partOf Q K V W 1) := rfl

/-- The computed values of the second partial output, -/
theorem chain2 : k0_pay45 (k0_pay43 (k0_pay41 (k0_pay38 (k0_pay36 (k0_pay34 (F := F)) ((cut (rK 0) V)) (k0_pay35 (cut (rQ 2 0) Q) (cut (rK 0) K)) (cut (rO 0) W)) (k0_pay37 (cut (rQ 2 1) Q) (cut (rK 1) K) (cut (rK 1) V) (cut (rO 1) W)) (cut (rQ 2 2) Q) (cut (rK 2) K) (cut (rK 2) V) (cut (rO 2) W)) ((cut (rK 3) V)) (k0_pay39 (cut (rQ 2 3) Q) (cut (rK 3) K)) (k0_pay40 (cut (rQ 2 3) Q) (cut (rK 3) K)) (cut (rO 3) W) (cut (rQ 2 4) Q) (cut (rK 4) K) (cut (rK 4) V) (cut (rO 4) W)) ((cut (rK 5) V)) (k0_pay42 (cut (rQ 2 5) Q) (cut (rK 5) K)) (cut (rO 5) W)) (k0_pay44 (cut (rQ 2 6) Q) (cut (rK 6) K) (cut (rK 6) V) (cut (rO 6) W)) (cut (rQ 2 7) Q) (cut (rK 7) K) (cut (rK 7) V) (cut (rO 7) W)
    = partOf Q K V W 2 := rfl

/-- of the third -/
theorem chain3 : k0_pay58 (k0_pay55 (k0_pay54 (k0_pay51 (k0_pay48 (k0_pay47 (F := F)) ((cut (rQ 3 0) Q)) ((cut (rK 0) K)) ((cut (rK 0) V)) ((constant S512x2048 .f32 0x00000000#32)) (cut (rO 0) W)) (k0_pay49 (cut (rQ 3 1) Q) (cut (rK 1) K) (cut (rK 1) V)) (k0_pay50 (cut (rO 1) W)) ((constant S512x1024 .f32 0x00000000#32)) (cut (rQ 3 2) Q) (cut (rK 2) K) (cut (rK 2) V) (cut (rO 2) W)) ((cut (rK 3) V)) (k0_pay52 (cut (rQ 3 3) Q) (cut (rK 3) K)) (k0_pay53 (cut (rQ 3 3) Q) (cut (rK 3) K)) (cut (rO 3) W) (cut (rQ 3 4) Q) (cut (rK 4) K) (cut (rK 4) V) (cut (rO 4) W)) ((cut (rQ 3 5) Q)) ((cut (rK 5) K)) ((cut (rK 5) V)) ((constant S512x2048 .f32 0x00000000#32)) (cut (rO 5) W)) (k0_pay56 (cut (rQ 3 6) Q) (cut (rK 6) K) (cut (rK 6) V)) (k0_pay57 (cut (rO 6) W)) ((constant S512x1024 .f32 0x00000000#32)) (cut (rQ 3 7) Q) (cut (rK 7) K) (cut (rK 7) V) (cut (rO 7) W)
    = partOf Q K V W 3 := rfl

/-- and of the last. -/
theorem chain0 : k0_pay70 (k0_pay67 (k0_pay66 (k0_pay64 (k0_pay61 (k0_pay60 (F := F)) ((cut (rQ 0 0) Q)) ((cut (rK 0) K)) ((cut (rK 0) V)) (cut (rO 0) W)) (k0_pay62 (cut (rQ 0 1) Q) (cut (rK 1) K) (cut (rK 1) V)) (k0_pay63 (cut (rO 1) W)) (cut (rQ 0 2) Q) (cut (rK 2) K) (cut (rK 2) V) (cut (rO 2) W)) ((cut (rK 3) V)) (k0_pay65 (cut (rQ 0 3) Q) (cut (rK 3) K)) (cut (rO 3) W) (cut (rQ 0 4) Q) (cut (rK 4) K) (cut (rK 4) V) (cut (rO 4) W)) ((cut (rQ 0 5) Q)) ((cut (rK 5) K)) ((cut (rK 5) V)) (cut (rO 5) W)) (k0_pay68 (cut (rQ 0 6) Q) (cut (rK 6) K) (cut (rK 6) V)) (k0_pay69 (cut (rO 6) W)) (cut (rQ 0 7) Q) (cut (rK 7) K) (cut (rK 7) V) (cut (rO 7) W)
    = partOf Q K V W 0 := rfl

end Cert.KernelIdeal.Ring

end
-- ==== Proof.KernelIdeal.Body.lean ====
/- The whole body on one device: its printed parts one after the other, from what the launch hands the device to the result in the
   output's buffer, with every slot, buffer and counter back. -/
module

public import proofs.«01_k».proof.Proof.KernelIdeal.Heads

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A conjunction over the six copies, written out. -/
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The landing slots one by one, by copy; -/
theorem landing_six (c : Dev nD) : (landing c : sProp 𝕄) = iprop((∃ X, held (srcB 0) (dstJ 0) c fullShare X) ∗ (∃ X, held (srcB 1) (dstJ 1) c fullShare X) ∗ (∃ X, held (srcB 2) (dstJ 2) c fullShare X) ∗ (∃ X, held (srcB 3) (dstJ 3) c fullShare X) ∗ (∃ X, held (srcB 4) (dstJ 4) c fullShare X) ∗ (∃ X, held (srcB 5) (dstJ 5) c fullShare X)) :=
  bigSep_fin6 _
/-- by buffer and slot. -/
theorem landing_slots (c : Dev nD) : (landing c : sProp 𝕄) = iprop((∃ X, held xgM 1 c fullShare X) ∗ (∃ X, held xgM 2 c fullShare X) ∗ (∃ X, held xgM 3 c fullShare X)
    ∗ (∃ X, held rsM 0 c fullShare X) ∗ (∃ X, held rsM 1 c fullShare X) ∗ (∃ X, held rsM 2 c fullShare X)) := bigSep_fin6 _

/-- A buffer of slots, each at some contents. -/
def slots (M : Scr) (c : Dev nD) : sProp 𝕄 := bigSep Finset.univ fun j : Fin 4 => iprop(∃ X, held M j c fullShare X)
/-- The four slots, written out. -/
theorem slots_eq (M : Scr) (c : Dev nD) : (slots M c : sProp 𝕄)
    = iprop((∃ X, held M 0 c fullShare X) ∗ (∃ X, held M 1 c fullShare X) ∗ (∃ X, held M 2 c fullShare X) ∗ (∃ X, held M 3 c fullShare X)) := bigSep_slots _

/-- All six copies, ready to start. -/
def readies (c : Dev nD) : sProp 𝕄 := bigSep Finset.univ fun k : Fin 6 => ready k c
/-- What the six copies need before they start, written out. -/
theorem readies_eq (c : Dev nD) : (readies c : sProp 𝕄) = iprop(ready 0 c ∗ ready 1 c ∗ ready 2 c ∗ ready 3 c ∗ ready 4 c ∗ ready 5 c) := bigSep_fin6 _
/-- A copy's two counters at zero, closed. -/
def done (k : Fin 6) (c : Dev nD) : sProp 𝕄 := iprop(semVal (sendCell k c) 0 ∗ semVal (recvCell k c) 0)
def dones (c : Dev nD) : sProp 𝕄 := bigSep Finset.univ fun k : Fin 6 => done k c
/-- What the six copies leave, written out. -/
theorem dones_eq (c : Dev nD) : (dones c : sProp 𝕄) = iprop(done 0 c ∗ done 1 c ∗ done 2 c ∗ done 3 c ∗ done 4 c ∗ done 5 c) := bigSep_fin6 _

/-- The scratch buffers, at any contents. -/
def scratch (c : Dev nD) : sProp 𝕄 :=
  iprop(slots xgM c ∗ slots rsM c ∗ (∃ f, owns (c : Thread nD τ) qM fullShare f) ∗ (∃ f, owns (c : Thread nD τ) kM fullShare f) ∗ (∃ f, owns (c : Thread nD τ) vM fullShare f))

/-- The staged inputs. -/
def staged (c : Dev nD) : sProp 𝕄 := iprop(owns (c : Thread nD τ) xM fullShare (xS m c) ∗ wts m c ∗ owns (c : Thread nD τ) woM fullShare (woS m c))

/-- With no row block computed, the three buffers hold what they held. -/
theorem rows_start (c : Dev nD) (fq fk fv : Vec F S2048x1024 .bf16) :
    (rows m c fq fk fv 0 0 0 : sProp 𝕄) = iprop(owns (c : Thread nD τ) qM fullShare fq ∗ owns (c : Thread nD τ) kM fullShare fk ∗ owns (c : Thread nD τ) vM fullShare fv) := by
  unfold rows; rw [fill_zero, fill_zero, fill_zero]

/-- The whole block holds every index. -/
theorem mem_rX (x : S1x512x1024.Idx) : x ∈ (rX).set := by
  rw [← Rect.map_emb_univ]
  exact Finset.mem_map.mpr ⟨x, Finset.mem_univ _, rX_emb x⟩

set_option maxHeartbeats 1600000 in
/-- The body on device `c`. -/
theorem body_run (K : Dev nD × Fin 13 → ℕ) (c : Dev nD) {Q : PUnit → sProp 𝕄} :
    iprop(records m K ∗ levAts L lv ∗ gate c ∗ readies c ∗ scratch c ∗ ow c (O₀ c) ∗ staged m c ∗ (∃ o, owns (c : Thread nD τ) oM fullShare o))
      ⊢ iprop(((ow c (OR c 6) ∗ staged m c ∗ owns (c : Thread nD τ) oM fullShare (outAt m c) ∗ scratch c ∗ semVal (barCell c) 0 ∗ dones c) -∗ Q ⟨⟩)
        -∗ wp frame (wpE (defs₀ (F := F)) 𝒱₀ (c : Thread nD τ) none) Set.univ (atBufs (cc0_body (F := F))) Q) := by
  simp only [cc0_body_eq_skeleton]; unfold cc0_body_skel
  iintro ⟨#HR, #Hlev, Hg, Hrd, Hsc, Ho, Hst, ⟨%o, Hout⟩⟩ Hk
  ihave Hrd := (Entails.of_eq (readies_eq c)) $$ Hrd
  icases Hrd with ⟨R0, R1, R2, R3, R4, R5⟩
  unfold scratch staged
  icases Hsc with ⟨Hxg, Hrs, ⟨%fq, Hq⟩, ⟨%fk, Hkk⟩, ⟨%fv, Hv⟩⟩
  icases Hst with ⟨Hx, Hw, Hwo⟩
  ihave Hxg := (Entails.of_eq (slots_eq xgM c)) $$ Hxg
  ihave Hrs := (Entails.of_eq (slots_eq rsM c)) $$ Hrs
  icases Hxg with ⟨⟨%f0, X0⟩, X1, X2, X3⟩
  icases Hrs with ⟨S0, S1, S2, ⟨%g3, S3⟩⟩
  ihave Hl := (Entails.of_eq (landing_slots c).symm) $$ [X1 X2 X3 S0 S1 S2]
  · isplitl [X1]; · iexact X1
    isplitl [X2]; · iexact X2
    isplitl [X3]; · iexact X3
    isplitl [S0]; · iexact S0
    isplitl [S1] <;> iassumption
  ihave Hrow := (Entails.of_eq (rows_start m c fq fk fv).symm) $$ [Hq Hkk Hv]
  · isplitl [Hq]; · iexact Hq
    isplitl [Hkk] <;> iassumption
  rw [wp_bind]
  iapply (part1_run m K c f0) $$ [Hg Hl Ho Hx X0]
  · isplitr; · iexact HR
    isplitr; · iexact Hlev
    isplitl [Hg]; · iexact Hg
    isplitl [Hl]; · iexact Hl
    isplitl [Ho]; · iexact Ho
    isplitl [Hx]; · iexact Hx
    iexact X0
  iintro %v7 ⟨Hl, Zb, Ho, Hx, X0⟩
  try dsimp only
  ihave Hl := (Entails.of_eq (landing_six (nxt c))) $$ Hl
  icases Hl with ⟨D0, D1, D2, D3, D4, D5⟩
  rw [wp_bind]
  iapply (part2_run m K c fq fk fv) $$ [X0 D0 R0 Ho Hw Hrow]
  · isplitr; · iexact HR
    isplitl [X0]; · iexact X0
    isplitl [D0]; · iexact D0
    isplitl [R0]; · iexact R0
    isplitl [Ho]; · iexact Ho
    isplitl [Hw]; · iexact Hw
    iexact Hrow
  iintro ⟨X0, Hs, Ha, Ho, Hw, Hrow⟩
  try dsimp only
  rw [wp_bind]
  iapply (part3_run m K c fq fk fv _) $$ [X0 Hs Ha D1 R1 Ho Hw Hrow]
  · isplitr; · iexact HR
    isplitr; · iexact Hlev
    isplitl [X0]; · iexact X0
    isplitl [Hs]; · iexact Hs
    isplitl [Ha]; · iexact Ha
    isplitl [D1]; · iexact D1
    isplitl [R1]; · iexact R1
    isplitl [Ho]; · iexact Ho
    isplitl [Hw]; · iexact Hw
    iexact Hrow
  iintro %v81 ⟨X0, Zs0, Zr0, X1, Hs, Ha, Ho, Hw, Hrow⟩
  try dsimp only
  rw [wp_bind]
  iapply (part4_run m K c fq fk fv _ _) $$ [X1 Hs Ho Hw Hrow]
  · isplitr; · iexact HR
    isplitr; · iexact Hlev
    isplitl [X1]; · iexact X1
    isplitl [Hs]; · iexact Hs
    isplitl [Ho]; · iexact Ho
    isplitl [Hw]; · iexact Hw
    iexact Hrow
  iintro ⟨X1, Zs1, Ho, Hw, Hrow⟩
  try dsimp only
  rw [wp_bind]
  iapply (part5_run m K c fq fk fv _) $$ [Ha D2 R2 Ho Hw Hrow]
  · isplitr; · iexact HR
    isplitr; · iexact Hlev
    isplitl [Ha]; · iexact Ha
    isplitl [D2]; · iexact D2
    isplitl [R2]; · iexact R2
    isplitl [Ho]; · iexact Ho
    isplitl [Hw]; · iexact Hw
    iexact Hrow
  iintro ⟨Zr1, X2, Hs, Ha, Ho, Hw, Hrow⟩
  try dsimp only
  rw [wp_bind]
  iapply (part6_run m K c fq fk fv _) $$ [X2 Hs Ha Ho Hw Hrow]
  · isplitr; · iexact HR
    isplitr; · iexact Hlev
    isplitl [X2]; · iexact X2
    isplitl [Hs]; · iexact Hs
    isplitl [Ha]; · iexact Ha
    isplitl [Ho]; · iexact Ho
    isplitl [Hw]; · iexact Hw
    iexact Hrow
  iintro ⟨X2, Zs2, Zr2, X3, Ho, Hw, Hrow⟩
  try dsimp only
  rw [wp_bind]
  iapply (part7_run m c fq fk fv _) $$ [Hw Hrow Hwo]
  · isplitl [Hw]; · iexact Hw
    isplitl [Hrow]; · iexact Hrow
    iexact Hwo
  iintro ⟨Hw, Hc⟩
  try dsimp only
  rw [wp_bind]
  iapply (part8_run c _ _ _ _ _ _) $$ [Hc]
  · iexact Hc
  iintro Hc
  try dsimp only
  rw [wp_bind]
  iapply (part9_run c _ _ _ _ _ _ _ _) $$ [Hc]
  · iexact Hc
  iintro Hc
  try dsimp only
  rw [wp_bind]
  iapply (part10_run c _ _ _ _ _ _ _) $$ [Hc]
  · iexact Hc
  iintro Hc
  try dsimp only
  rw [wp_bind]
  iapply (part11_run c _ _ _ _ _ _) $$ [Hc]
  · iexact Hc
  iintro Hc
  try dsimp only
  rw [wp_bind]
  iapply (part12_run m K c _ _ _ _ _ _ _ _ _ g3 (chain1 _ _ _ _)) $$ [S3 D3 R3 Ho Hc]
  · isplitr; · iexact HR
    isplitl [S3]; · iexact S3
    isplitl [D3]; · iexact D3
    isplitl [R3]; · iexact R3
    isplitl [Ho]; · iexact Ho
    iexact Hc
  iintro ⟨S3, Hs, Ha, Ho, Hc⟩
  try dsimp only
  rw [wp_bind]
  iapply (part13_run c _ _ _ _ _ _ _) $$ [Hc]
  · iexact Hc
  iintro Hc
  try dsimp only
  rw [wp_bind]
  iapply (part14_run c _ _ _ _ _ _) $$ [Hc]
  · iexact Hc
  iintro Hc
  try dsimp only
  rw [wp_bind]
  iapply (part15_run c _ _ _ _ _ _ _ _) $$ [Hc]
  · iexact Hc
  iintro Hc
  try dsimp only
  rw [wp_bind]
  iapply (part16_run c _ _ _ _ _ _ _) $$ [Hc]
  · iexact Hc
  iintro Hc
  try dsimp only
  rw [wp_bind]
  iapply (part17_run m K c _ _ _ _ _ _ _) $$ [S3 Hs Ho Hc]
  · isplitr; · iexact HR
    isplitr; · iexact Hlev
    isplitl [S3]; · iexact S3
    isplitl [Hs]; · iexact Hs
    isplitl [Ho]; · iexact Ho
    iexact Hc
  iintro ⟨S3, Zs3, Ho, Hc⟩
  try dsimp only
  rw [wp_bind]
  iapply (part18_run m K c _ _ _ _ _ _ _ _ (chain2 _ _ _ _)) $$ [Ha D4 R4 Ho Hc]
  · isplitr; · iexact HR
    isplitr; · iexact Hlev
    isplitl [Ha]; · iexact Ha
    isplitl [D4]; · iexact D4
    isplitl [R4]; · iexact R4
    isplitl [Ho]; · iexact Ho
    iexact Hc
  iintro ⟨Zr3, S0, Hs, Ha, Ho, Hc⟩
  try dsimp only
  rw [wp_bind]
  iapply (part19_run c _ _ _ _ _ _ _ _ _) $$ [Hc]
  · iexact Hc
  iintro Hc
  try dsimp only
  rw [wp_bind]
  iapply (part20_run c _ _ _ _ _ _ _ _) $$ [Hc]
  · iexact Hc
  iintro Hc
  try dsimp only
  rw [wp_bind]
  iapply (part21_run c _ _ _ _ _ _ _ _) $$ [Hc]
  · iexact Hc
  iintro Hc
  try dsimp only
  rw [wp_bind]
  iapply (part22_run c _ _ _ _ _ _ _ _ _) $$ [Hc]
  · iexact Hc
  iintro Hc
  try dsimp only
  rw [wp_bind]
  iapply (part23_run m K c _ _ _ _ _ _ _ _ _) $$ [S0 Hs Ho Hc]
  · isplitr; · iexact HR
    isplitr; · iexact Hlev
    isplitl [S0]; · iexact S0
    isplitl [Hs]; · iexact Hs
    isplitl [Ho]; · iexact Ho
    iexact Hc
  iintro ⟨S0, Zs4, Ho, Hc⟩
  try dsimp only
  rw [wp_bind]
  iapply (part24_run m K c _ _ _ _ _ _ _ (chain3 _ _ _ _)) $$ [Ha D5 R5 Ho Hc]
  · isplitr; · iexact HR
    isplitr; · iexact Hlev
    isplitl [Ha]; · iexact Ha
    isplitl [D5]; · iexact D5
    isplitl [R5]; · iexact R5
    isplitl [Ho]; · iexact Ho
    iexact Hc
  iintro ⟨Zr4, S1, Hs, Ha, Ho, Hc⟩
  try dsimp only
  rw [wp_bind]
  iapply (part25_run c _ _ _ _ _ _ _ _) $$ [Hc]
  · iexact Hc
  iintro Hc
  try dsimp only
  rw [wp_bind]
  iapply (part26_run c _ _ _ _ _ _ _) $$ [Hc]
  · iexact Hc
  iintro Hc
  try dsimp only
  rw [wp_bind]
  iapply (part27_run c _ _ _ _ _ _ _) $$ [Hc]
  · iexact Hc
  iintro Hc
  try dsimp only
  rw [wp_bind]
  iapply (part28_run c _ _ _ _ _ _ _ _) $$ [Hc]
  · iexact Hc
  iintro Hc
  try dsimp only
  rw [wp_bind]
  iapply (part29_run m K c _ _ _ _ _ _ _) $$ [S1 Hs Ho Hc]
  · isplitr; · iexact HR
    isplitr; · iexact Hlev
    isplitl [S1]; · iexact S1
    isplitl [Hs]; · iexact Hs
    isplitl [Ho]; · iexact Ho
    iexact Hc
  iintro ⟨S1, Zs5, Ho, Hc⟩
  try dsimp only
  simp only [Prog.lift, Prog.bind_op, Prog.bind_ret, Prog.pure_eq_ret]
  iapply (wp_wait_recv m K c 5 rsM 2 (r2 m (prv c)) 6 rfl rfl rfl rfl (dst_credit 5)) $$ [Ha Ho]
  · isplitr; · iexact HR
    isplitr; · iexact Hlev
    isplitl [Ha] <;> iassumption
  iintro ⟨S2, Zr5, Ho⟩
  iapply (wp_load_slot (F := F) rsM 2 c fullShare (r2 m (prv c))) $$ S2; iintro S2
  iapply (wp_load_cut (F := F) c) $$ Hout; iintro Hout
  iapply (wp_store_cut (F := F) c (outAt m c) (fun x => by
    rw [rX_emb x]
    exact congrFun (congrArg (fun p => k0_pay1 p (r2 m (prv c))) (chain0 (rowsOf (qC m c)) (rowsOf (kC m c)) (rowsOf (vC m c)) (woS m c)).symm) x)
    (fun i hi => absurd (mem_rX i) hi)) $$ Hout; iintro Hout
  rw [wp_ret]; imodintro
  iapply Hk
  unfold core
  icases Hc with ⟨Hq, Hkk, Hv, Hwo⟩
  isplitl [Ho]; · iexact Ho
  isplitl [Hx Hw Hwo]
  · isplitl [Hx]; · iexact Hx
    isplitl [Hw] <;> iassumption
  isplitl [Hout]; · iexact Hout
  isplitl [X0 X1 X2 X3 S0 S1 S2 S3 Hq Hkk Hv]
  · rw [slots_eq, slots_eq]
    isplitl [X0 X1 X2 X3]
    · isplitl [X0]; · iexists _; iexact X0
      isplitl [X1]; · iexists _; iexact X1
      isplitl [X2]; · iexists _; iexact X2
      iexists _; iexact X3
    isplitl [S0 S1 S2 S3]
    · isplitl [S0]; · iexists _; iexact S0
      isplitl [S1]; · iexists _; iexact S1
      isplitl [S2]; · iexists _; iexact S2
      iexists _; iexact S3
    isplitl [Hq]; · iexists _; iexact Hq
    isplitl [Hkk]; · iexists _; iexact Hkk
    iexists _; iexact Hv
  isplitl [Zb]; · iexact Zb
  rw [dones_eq]
  unfold done
  isplitl [Zs0 Zr0]; · isplitl [Zs0] <;> iassumption
  isplitl [Zs1 Zr1]; · isplitl [Zs1] <;> iassumption
  isplitl [Zs2 Zr2]; · isplitl [Zs2] <;> iassumption
  isplitl [Zs3 Zr3]; · isplitl [Zs3] <;> iassumption
  isplitl [Zs4 Zr4]; · isplitl [Zs4] <;> iassumption
  isplitl [Zs5] <;> iassumption

end Cert.KernelIdeal.Ring

end
-- ==== Proof.KernelIdeal.Data.lean ====
/- The kernel's proof data on each device, and that the body meets its obligation there. -/
module

public import proofs.«01_k».proof.Proof.KernelIdeal.Body

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The launch state: memory `m`, every counter zero. -/
def s₀ : MemSt nD τ sig (Elt F) := ⟨m, fun _ => 0, ρ⟩

/-- The grid has one point; -/
theorem cfg0_N : cfg0.N = 1 := by decide
def t₀ : Fin cfg0.N := ⟨0, by rw [cfg0_N]; decide⟩
/-- every point is that one. -/
theorem fin_N (t : Fin cfg0.N) : t = t₀ := by
  obtain ⟨t, ht⟩ := t; have := cfg0_N; exact Fin.ext (by simp only [t₀]; omega)

/-- What device `c` starts from: the records at some names, its share of the protocol, its credit, and the levels. -/
def start (c : Dev nD) : sProp 𝕄 := iprop((∃ K, records m K) ∗ gate c ∗ readies c ∗ levAts L lv)
def Φ₀ (c : Dev nD) : sProp 𝕄 := iprop(start m c ∗ scratch c)
/-- What it ends with: the scratch, and all its counters at zero. -/
def Φ₁ (c : Dev nD) : sProp 𝕄 := iprop(scratch c ∗ semVal (barCell c) 0 ∗ dones c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xS m c
    | ⟨1, _⟩ => wqS m c
    | ⟨2, _⟩ => woS m c
    | ⟨3, _⟩ => wkS m c
    | ⟨4, _⟩ => wvS m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- Before the body the block of `x` is staged; -/
theorem before_0 (c : Dev nD) (d) : (dats m ρ 0 c).before (0 : Fin 6) t₀ d = xS m c := by
  unfold Dat.before; rw [if_pos (fetch0_0 t₀)]; rfl
/-- so are the query weight, -/
theorem before_1 (c : Dev nD) (d) : (dats m ρ 0 c).before (1 : Fin 6) t₀ d = wqS m c := by
  unfold Dat.before; rw [if_pos (fetch0_1 t₀)]; rfl
/-- the output weight, -/
theorem before_2 (c : Dev nD) (d) : (dats m ρ 0 c).before (2 : Fin 6) t₀ d = woS m c := by
  unfold Dat.before; rw [if_pos (fetch0_2 t₀)]; rfl
/-- the key weight -/
theorem before_3 (c : Dev nD) (d) : (dats m ρ 0 c).before (3 : Fin 6) t₀ d = wkS m c := by
  unfold Dat.before; rw [if_pos (fetch0_3 t₀)]; rfl
/-- and the value weight. -/
theorem before_4 (c : Dev nD) (d) : (dats m ρ 0 c).before (4 : Fin 6) t₀ d = wvS m c := by
  unfold Dat.before; rw [if_pos (fetch0_4 t₀)]; rfl

/-- What the body is given, -/
def bodyPre (c : Dev nD) : sProp 𝕄 :=
  iprop(Φ₀ m c ∗ (dats m ρ 0 c).owesAt () t₀.castSucc
    ∗ (∃ d, owns (c : Thread nD τ) xM fullShare ((dats m ρ 0 c).before (0 : Fin 6) t₀ d))
    ∗ (∃ d, owns (c : Thread nD τ) wqM fullShare ((dats m ρ 0 c).before (1 : Fin 6) t₀ d))
    ∗ (∃ d, owns (c : Thread nD τ) woM fullShare ((dats m ρ 0 c).before (2 : Fin 6) t₀ d))
    ∗ (∃ d, owns (c : Thread nD τ) wkM fullShare ((dats m ρ 0 c).before (3 : Fin 6) t₀ d))
    ∗ (∃ d, owns (c : Thread nD τ) wvM fullShare ((dats m ρ 0 c).before (4 : Fin 6) t₀ d))
    ∗ (∃ d, owns (c : Thread nD τ) oM fullShare ((dats m ρ 0 c).before (5 : Fin 6) t₀ d)))
/-- and what it leaves. -/
def bodyPost (c : Dev nD) : sProp 𝕄 :=
  iprop(Φ₁ c ∗ (dats m ρ 0 c).owesAt () t₀.succ
    ∗ owns (c : Thread nD τ) xM fullShare (xS m c)
    ∗ owns (c : Thread nD τ) wqM fullShare (wqS m c)
    ∗ owns (c : Thread nD τ) woM fullShare (woS m c)
    ∗ owns (c : Thread nD τ) wkM fullShare (wkS m c)
    ∗ owns (c : Thread nD τ) wvM fullShare (wvS m c)
    ∗ owns (c : Thread nD τ) oM fullShare (outAt m c))

/-- The body takes what the launch hands a device to the result in the output's buffer. -/
theorem body_ok (c : Dev nD) :
    bodyPre m ρ c ⊢ wp frame (wpE (defs₀ (F := F)) 𝒱₀ (c : Thread nD τ) none) Set.univ (atBufs (cc0_body (F := F))) (fun _ => bodyPost m ρ c) := by
  unfold bodyPre Φ₀ start
  simp only [before_0, before_1, before_2, before_3, before_4]
  iintro ⟨⟨⟨⟨%K, #HR⟩, Hg, Hrd, #Hlev⟩, Hsc⟩, Ho, ⟨%_, Hx⟩, ⟨%_, Hwq⟩, ⟨%_, Hwo⟩, ⟨%_, Hwk⟩, ⟨%_, Hwv⟩, ⟨%_, Hout⟩⟩
  unfold Dat.owesAt Pipeline.owesWithin
  icases Ho with ⟨%W, %hW, HO⟩
  rw [show (dats m ρ 0 c).owed t₀.castSucc = O₀ c from rfl]
  iapply (body_run m K c) $$ [Hg Hrd Hsc HO Hx Hwq Hwo Hwk Hwv Hout]
  · isplitr; · iexact HR
    isplitr; · iexact Hlev
    isplitl [Hg]; · iexact Hg
    isplitl [Hrd]; · iexact Hrd
    isplitl [Hsc]; · iexact Hsc
    isplitl [HO]; · unfold ow; iexists W; iexact HO
    isplitl [Hx Hwq Hwo Hwk Hwv]
    · unfold staged wts
      isplitl [Hx]; · iexact Hx
      isplitl [Hwq Hwk Hwv]
      · isplitl [Hwq]; · iexact Hwq
        isplitl [Hwk] <;> iassumption
      iexact Hwo
    iexists _; iexact Hout
  iintro ⟨Ho, Hst, Hout, Hsc, Hz, Hd⟩
  unfold bodyPost Φ₁ staged wts ow Dat.owesAt Pipeline.owesWithin
  rw [show (dats m ρ 0 c).owed t₀.succ = 0 from rfl, OR_end]
  icases Ho with ⟨%W', HO⟩
  icases Hst with ⟨Hx, ⟨Hwq, Hwk, Hwv⟩, Hwo⟩
  isplitl [Hsc Hz Hd]
  · isplitl [Hsc]; · iexact Hsc
    isplitl [Hz] <;> iassumption
  isplitl [HO]
  · iexists W'
    isplitr; · ipureintro; exact fun _ _ => Or.inl trivial
    iexact HO
  isplitl [Hx]; · iexact Hx
  isplitl [Hwq]; · iexact Hwq
  isplitl [Hwo]; · iexact Hwo
  isplitl [Hwk]; · iexact Hwk
  isplitl [Hwv] <;> iassumption

set_option maxRecDepth 40000 in
/-- The library's body obligation on device `c`. -/
theorem body_obligation (c : Dev nD) : BodyObligation (dats (F := F) m ρ 0 c) (defs₀ (F := F)) 𝒱₀ () Set.univ := fun t => by
  rw [fin_N t, bigSep_W0, bigSep_W0]
  show bodyPre m ρ c ⊢ wp frame (wpE (defs₀ (F := F)) 𝒱₀ (c : Thread nD τ) none) Set.univ (atBufs (cc0_body (F := F))) (fun _ => bodyPost m ρ c)
  exact body_ok m ρ c

end Cert.KernelIdeal.Ring

end
-- ==== Proof.KernelIdeal.Launch.lean ====
/- The launch: the cells' state is made, every device gets its share, and the whole program's run ends with each device's output
   array at the computed contents and every counter at zero. -/
module

public import proofs.«01_k».proof.Proof.KernelIdeal.Data
public import Idealize.ShloMosaic.Lib.Pipeline.CollectiveSegs

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def ring : Dev nD ≃ Dev nD := ⟨nxt, prv, prv_nxt, nxt_prv⟩

/-- The kernel's own semaphores: the twelve of the transfers. -/
abbrev osem : Fin 12 → SemLoc sig := fun j => .dma (xsem j)
/-- The twelve transfer semaphores are the launch's own. -/
theorem ownSemFacts : Pipeline.OwnSemFacts cfg0.spec osem := by decide

/-- Every array is held whole. -/
theorem share_eq (c : Dev nD) (w : Fin cfg0.W) : (dats m ρ 0 c).share w = fullShare := by unfold Dat.share; split <;> rfl

/-- The thirteen semaphores are distinct; -/
theorem csem_injective : Function.Injective csem := by decide
/-- so are their cells on the devices; -/
theorem kcell_injective : Function.Injective (kcell : Dev nD × Fin 13 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The duties of one device's cells: its barrier's two, then each transfer semaphore's one. -/
def dutyAt : Fin 14 → SemLoc sig × Bool := fun
  | ⟨0, _⟩ => (.reg barS, false)
  | ⟨1, _⟩ => (.reg barS, true)
  | ⟨j + 2, h⟩ => (.dma (xsem ⟨j, by omega⟩), false)
/-- so are the fourteen duties of a device; -/
theorem dutyAt_injective : Function.Injective dutyAt := by decide
abbrev tokOf (cj : Dev nD × Fin 14) : GSem nD τ sig × ℕ × Bool := (((cj.1 : Thread nD τ), (dutyAt cj.2).1), 0, (dutyAt cj.2).2)
/-- so are their tokens. -/
theorem tokOf_injective : Function.Injective (tokOf : Dev nD × Fin 14 → GSem nD τ sig × ℕ × Bool) := by
  rintro ⟨c, j⟩ ⟨c', j'⟩ h
  have h1 : c = c' := congrArg (fun x : GSem nD τ sig × ℕ × Bool => x.1.1.1) h
  have h2 : j = j' := dutyAt_injective (congrArg (fun x : GSem nD τ sig × ℕ × Bool => (x.1.2, x.2.2)) h)
  rw [h1, h2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells, -/
def toks (c : Dev nD) : sProp 𝕄 := bigSep Finset.univ fun j : Fin 14 => dutyTok ER (tokOf (c, j)).1 (tokOf (c, j)).2.1 (tokOf (c, j)).2.2
/-- sorted by kind. -/
def toks' (c : Dev nD) : sProp 𝕄 :=
  iprop(dutyTok ER (barCell c) 0 false ∗ dutyTok ER (barCell c) 0 true ∗ (bigSep Finset.univ fun k : Fin 6 => dutyTok ER (sendCell k c) 0 false)
    ∗ bigSep Finset.univ fun k : Fin 6 => dutyTok ER (recvCell k c) 0 false)
/-- The tokens of the duties device `c` pays. -/
def payToks (c : Dev nD) : sProp 𝕄 :=
  iprop(dutyTok ER (barCell (nxt c)) 0 false ∗ dutyTok ER (barCell (prv c)) 0 true ∗ (bigSep Finset.univ fun k : Fin 6 => dutyTok ER (sendCell k c) 0 false)
    ∗ bigSep Finset.univ fun k : Fin 6 => dutyTok ER (recvCell k (nxt c)) 0 false)
/-- Device `c`'s positions, by cell; -/
def posns (c : Dev nD) : sProp 𝕄 := bigSep Finset.univ fun k : Fin 13 => atPos ER (kcell (c, k)) 0 ∅ 0
/-- sorted by kind. -/
def posns' (c : Dev nD) : sProp 𝕄 :=
  iprop(atPos ER (barCell c) 0 ∅ 0 ∗ (bigSep Finset.univ fun k : Fin 6 => atPos ER (sendCell k c) 0 ∅ 0) ∗ bigSep Finset.univ fun k : Fin 6 => atPos ER (recvCell k c) 0 ∅ 0)

/-- A conjunction over twelve, written out; -/
theorem bigSep_fin12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
/-- over thirteen; -/
theorem bigSep_fin13 (Φ : Fin 13 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
/-- over fourteen. -/
theorem bigSep_fin14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

/-- A device's tokens, sorted by kind; -/
theorem toks_sort (c : Dev nD) : (toks c : sProp 𝕄) ⊢ toks' c := by
  unfold toks toks'
  rw [bigSep_fin14, bigSep_fin6, bigSep_fin6]
  iintro ⟨A, B, s0, s1, s2, s3, s4, s5, r0, r1, r2, r3, r4, r5⟩
  isplitl [A]; · iexact A
  isplitl [B]; · iexact B
  isplitl [s0 s1 s2 s3 s4 s5]
  · isplitl [s0]; · iexact s0
    isplitl [s1]; · iexact s1
    isplitl [s2]; · iexact s2
    isplitl [s3]; · iexact s3
    isplitl [s4]; · iexact s4
    iexact s5
  isplitl [r0]; · iexact r0
  isplitl [r1]; · iexact r1
  isplitl [r2]; · iexact r2
  isplitl [r3]; · iexact r3
  isplitl [r4]; · iexact r4
  iexact r5

/-- its cells' positions, sorted by kind. -/
theorem posns_sort (c : Dev nD) : (posns c : sProp 𝕄) ⊢ posns' c := by
  unfold posns posns'
  rw [bigSep_fin13, bigSep_fin6, bigSep_fin6]
  iintro ⟨A, s0, s1, s2, s3, s4, s5, r0, r1, r2, r3, r4, r5⟩
  isplitl [A]; · iexact A
  isplitl [s0 s1 s2 s3 s4 s5]
  · isplitl [s0]; · iexact s0
    isplitl [s1]; · iexact s1
    isplitl [s2]; · iexact s2
    isplitl [s3]; · iexact s3
    isplitl [s4]; · iexact s4
    iexact s5
  isplitl [r0]; · iexact r0
  isplitl [r1]; · iexact r1
  isplitl [r2]; · iexact r2
  isplitl [r3]; · iexact r3
  isplitl [r4]; · iexact r4
  iexact r5

/-- What the launch deals device `c`, -/
def G (c : Dev nD) : sProp 𝕄 :=
  iprop((bigSep Finset.univ fun k : Fin 13 => roundState ER (ringRd m) (kcell (c, k)) 0)
    ∗ (bigSep Finset.univ fun k : Fin 13 => iprop(atPos ER (kcell (c, k)) 0 ∅ 0 ∗ reached ER (kcell (c, k)) 0)) ∗ toks c)
/-- and what it has once the cells' invariants are made. -/
def G' (c : Dev nD) : sProp 𝕄 := iprop((∃ K, records m K) ∗ posns' c ∗ payToks c)

/-- The ring's ghost state funds every device's positions and tokens. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The transfer semaphores at zero, as the send and receive cells; -/
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0 ∗ semVal (sendCell 3 c) 0 ∗ semVal (sendCell 4 c) 0 ∗ semVal (sendCell 5 c) 0 ∗ semVal (recvCell 0 c) 0 ∗ semVal (recvCell 1 c) 0 ∗ semVal (recvCell 2 c) 0 ∗ semVal (recvCell 3 c) 0 ∗ semVal (recvCell 4 c) 0 ∗ semVal (recvCell 5 c) 0) := by
  rw [Pipeline.ownSems0_eq_of_list c osem [0, 1, 2, 3, 4, 5, 6, 7, 8, 9, 10, 11] (by decide) (by decide)]; rfl
/-- the barrier semaphore at zero, as its cell; -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- all thirteen, one after the other. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 13 => semVal (kcell (c, k)) 0 : sProp 𝕄) := by
  rw [ownSems0_eq, unscopedSems0_eq, bigSep_fin13]
  iintro ⟨H, HB⟩
  isplitl [HB]; · iexact HB
  iexact H

/-- A device's cells become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 13 => semVal (kcell (c, k)) 0) ∗ bigSep Finset.univ fun k : Fin 13 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt around the ring: those of the left barrier duties and of the receive cells one device to the left, those of the
    right barrier duties one to the right. -/
theorem toks_around : (bigSep Finset.univ fun c : Dev nD => (toks' c : sProp 𝕄)) ⊢ bigSep Finset.univ fun c : Dev nD => payToks c := by
  unfold toks' payToks
  rw [bigSep_sep', bigSep_sep', bigSep_sep', bigSep_sep', bigSep_sep', bigSep_sep',
    bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (bigSep Finset.univ fun k : Fin 6 => dutyTok ER (recvCell k c) 0 false : sProp 𝕄))]
  iintro ⟨H1, H2, H3, H4⟩
  isplitl [H1]; · iexact H1
  isplitl [H2]; · iexact H2
  isplitl [H3]; · iexact H3
  iexact H4

/-- A persistent fact is used by every member of a conjunction. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants recorded for all, each device gets its positions and the tokens of the duties it pays. -/
theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  have hG (K : Dev nD × Fin 13 → ℕ) (c : Dev nD) : iprop(records m K ∗ (posns c ∗ payToks c)) ⊢ G' m c := by
    unfold G'
    iintro ⟨#HR, Hp, Ht⟩
    isplitr; · iexists K; iexact HR
    isplitl [Hp]; · iapply (posns_sort c); iexact Hp
    iexact Ht
  rw [bigSep_sep', bigSep_sep', ← bigSep_univ_prod (fun ck : Dev nD × Fin 13 => iprop(∃ κ : ℕ, cellInv ER (ringRd m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (ringRd m) κ (kcell ck) : sProp 𝕄))) $$ HI
  icases HK with ⟨%K, #HI⟩
  have ht : (bigSep Finset.univ fun c : Dev nD => (toks c : sProp 𝕄)) ⊢ bigSep Finset.univ fun c : Dev nD => payToks c :=
    (bigSep_mono fun c _ => toks_sort c).trans toks_around
  ihave Htk := ht $$ Htok
  iapply (with_persistent (R := records m K) fun c _ => hG K c)
  isplitr
  · unfold records; isplitl; · iexact HI
    iexact HR
  · iapply (Entails.of_eq (bigSep_sep' Finset.univ (fun c : Dev nD => (posns c : sProp 𝕄)) payToks).symm)
    isplitl [Hat]; · unfold posns; iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- Barrier cells are equal for equal devices only. -/
theorem bar_eq_iff {a b : Dev nD} : Iff (barCell a = barCell b) (a = b) :=
  ⟨fun h => Fin.ext (congrArg (fun g : GSem nD τ sig => g.1.1.val) h), fun h => h ▸ rfl⟩
/-- The receiving semaphores are distinct; -/
theorem recvS_injective : Function.Injective recvS := by decide
/-- receive cells are equal for equal copies and devices only; -/
theorem recv_eq_iff {j k : Fin 6} {a b : Dev nD} : Iff (recvCell j a = recvCell k b) (j = k ∧ a = b) :=
  ⟨fun h => ⟨recvS_injective (by have := congrArg (fun g : GSem nD τ sig => g.2) h; exact SemLoc.dma.inj this), congrArg (fun g : GSem nD τ sig => g.1.1) h⟩,
    fun h => by rw [h.1, h.2]⟩
/-- no barrier cell is a receive cell. -/
theorem bar_ne_recv {k : Fin 6} {a b : Dev nD} : barCell a ≠ recvCell k b := fun h => by
  have := congrArg (fun g : GSem nD τ sig => g.2) h; cases this

/-- What a device owes a barrier: one unit if it is either neighbour. -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, OR_apply, Finset.sum_eq_zero (fun k _ => if_neg fun h => bar_ne_recv h.1),
    tallyAt_apply, tallyAt_apply, Nat.zero_add]
  congr 1
  · by_cases h : d = prv c
    · subst h; rw [nxt_prv, if_pos ⟨rfl, rfl⟩, if_pos rfl]
    · rw [if_neg (fun ⟨h1, _⟩ => h (by rw [← prv_nxt d]; exact congrArg prv (bar_eq_iff.mp h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_eq_iff.mp h1).symm)), if_neg h]

/-- What a device owes a receive cell: a copy's credit if it is the left neighbour. -/
theorem owed_recv (k : Fin 6) (d c : Dev nD) : O₀ d (recvCell k c) () = if d = prv c then N else 0 := by
  unfold O₀ O₁
  rw [Pi.add_apply, Finsupp.add_apply, Pi.add_apply, Finsupp.add_apply, OR_apply,
    tallyAt_ne_cell (fun h => bar_ne_recv h.symm), tallyAt_ne_cell (fun h => bar_ne_recv h.symm), Finsupp.zero_apply, Nat.add_zero, Nat.add_zero]
  rw [Finset.sum_eq_single k (fun j _ hj => if_neg fun h => hj (recv_eq_iff.mp h.1).1.symm)
    (fun h => absurd (Finset.mem_filter.mpr ⟨Finset.mem_univ k, Nat.zero_le _⟩) h)]
  by_cases h : d = prv c
  · subst h; rw [nxt_prv, if_pos ⟨rfl, rfl⟩, if_pos rfl]
  · rw [if_neg (fun ⟨h1, _⟩ => h (by rw [← prv_nxt d]; exact congrArg prv (recv_eq_iff.mp h1).2.symm)), if_neg h]

/-- All that is owed a barrier: two units; -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

/-- all that is owed a receive cell: one copy's credit. -/
theorem launch_recv (k : Fin 6) (c : Dev nD) :
    tallyOn (recvCell k c) (launchCredit (Pipeline.owing O₀) 0 (recvCell k c)) = (tallyAt (recvCell k c) () N : CellTallies nD τ sig Unit) := by
  unfold tallyAt; refine congrArg _ (Finsupp.ext fun u => ?_); cases u
  rw [Pipeline.launchCredit_owing, Finsupp.single_eq_same, Finset.sum_congr rfl fun d _ => owed_recv k d c, Finset.sum_ite_eq' Finset.univ (prv c) fun _ => N,
    if_pos (Finset.mem_univ _)]

/-- The launch gives every device those credits. -/
theorem creds (c : Dev nD) :
    (Pipeline.launchCred O₀ c : sProp 𝕄) ⊢ iprop(cred (tallyAt (barCell c) () 2) ∗ bigSep Finset.univ fun k : Fin 6 => cred (tallyAt (recvCell k c) () N)) := by
  unfold Pipeline.launchCred
  rw [bigSep_univ_at _ (SemLoc.reg barS), launch_bar]
  refine sep_mono_right ?_
  have hinj : Function.Injective fun k : Fin 6 => (SemLoc.dma (recvS k) : SemLoc sig) := fun a b h => recvS_injective (SemLoc.dma.inj h)
  have hsub : Finset.univ.map ⟨fun k : Fin 6 => (SemLoc.dma (recvS k) : SemLoc sig), hinj⟩ ⊆ Finset.univ.erase (SemLoc.reg barS) := fun x hx => by
    obtain ⟨k, -, hk⟩ := Finset.mem_map.mp hx
    refine Finset.mem_erase.mpr ⟨fun h => ?_, Finset.mem_univ _⟩
    have := hk.trans h
    cases this
  have hcr (k : Fin 6) : (cred (tallyOn (recvCell k c) (launchCredit (Pipeline.owing O₀) 0 (recvCell k c))) : sProp 𝕄) ⊢ cred (tallyAt (recvCell k c) () N) :=
    Entails.of_eq (by rw [launch_recv])
  refine (bigSep_subset hsub).trans ?_
  rw [bigSep_map]
  exact bigSep_mono fun k _ => hcr k

/-! ### What a device starts and ends with -/

/-- What the launch hands a device is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' gate readies posns' payToks
  iintro ⟨-, Hlev, Hcr, -, HR, ⟨Hab, Has, Har⟩, Hbf, Hbt, Hts, Htr⟩
  ihave Hc := (creds (F := F) c) $$ Hcr
  icases Hc with ⟨Hcb, Hcr⟩
  imodintro
  isplitl
  · isplitl [HR]; · iexact HR
    isplitl [Hbt Hbf Hab Hcb]
    · isplitl [Hbt]; · iexact Hbt
      isplitl [Hbf]; · iexact Hbf
      isplitl [Hab] <;> iassumption
    isplitr [Hlev]
    · unfold ready
      rw [bigSep_sep', bigSep_sep', bigSep_sep', bigSep_sep']
      isplitl [Hts]; · iexact Hts
      isplitl [Htr]; · iexact Htr
      isplitl [Has]; · iexact Has
      isplitl [Har] <;> iassumption
    iexact Hlev
  · iempintro

/-- A whole buffer held is owned at its contents, and back. -/
theorem owns_of_whole (c : Dev nD) (b : Ref sig .tc) :
    (iprop(∃ f : Buf (Elt F) ((c : Thread nD τ).loc b), ((c : Thread nD τ).loc b) ↦{fullShare} f) : sProp 𝕄)
      ⊢ iprop(∃ X, owns (c : Thread nD τ) (Memref.whole b) fullShare X) := by
  unfold owns; simp only [Memref.view_whole, View.read_whole, View.set_whole]
  iintro ⟨%f, H⟩
  iexists f; iexists f; isplitr; · (ipureintro; rfl)
  iexact H
/-- A buffer held at some contents is the buffer at some contents. -/
theorem whole_of_owns (c : Dev nD) (b : Ref sig .tc) :
    (iprop(∃ X, owns (c : Thread nD τ) (Memref.whole b) fullShare X) : sProp 𝕄)
      ⊢ iprop(∃ f : Buf (Elt F) ((c : Thread nD τ).loc b), ((c : Thread nD τ).loc b) ↦{fullShare} f) := by
  unfold owns; simp only [Memref.view_whole, View.read_whole, View.set_whole]
  iintro ⟨%X, %f, %hf, H⟩
  iexists f; iexact H

/-- The gathered blocks split into their slots -/
theorem xg_split (c : Dev nD) :
    (iprop(∃ f : Buf (Elt F) ((c : Thread nD τ).loc cc0_scratch0), ((c : Thread nD τ).loc cc0_scratch0) ↦{fullShare} f) : sProp 𝕄) ⊢ slots xgM c := by
  unfold slots
  iintro ⟨%f, H⟩
  iapply (held_split xgM c f)
  rw [show (xgM : Scr).view.set = Finset.univ from View.set_whole _]
  iexact H
include m in
/-- and join again; -/
theorem xg_join (c : Dev nD) :
    (slots xgM c : sProp 𝕄) ⊢ iprop(∃ f : Buf (Elt F) ((c : Thread nD τ).loc cc0_scratch0), ((c : Thread nD τ).loc cc0_scratch0) ↦{fullShare} f) := by
  unfold slots
  iintro H
  ihave H := (held_merge xgM c (m ((c : Thread nD τ).loc cc0_scratch0))) $$ H
  icases H with ⟨%f, H⟩
  iexists f
  rw [show (xgM : Scr).view.set = Finset.univ from View.set_whole _]
  iexact H
/-- the partial outputs split into their slots -/
theorem rs_split (c : Dev nD) :
    (iprop(∃ f : Buf (Elt F) ((c : Thread nD τ).loc cc0_scratch4), ((c : Thread nD τ).loc cc0_scratch4) ↦{fullShare} f) : sProp 𝕄) ⊢ slots rsM c := by
  unfold slots
  iintro ⟨%f, H⟩
  iapply (held_split rsM c f)
  rw [show (rsM : Scr).view.set = Finset.univ from View.set_whole _]
  iexact H
include m in
/-- and join again. -/
theorem rs_join (c : Dev nD) :
    (slots rsM c : sProp 𝕄) ⊢ iprop(∃ f : Buf (Elt F) ((c : Thread nD τ).loc cc0_scratch4), ((c : Thread nD τ).loc cc0_scratch4) ↦{fullShare} f) := by
  unfold slots
  iintro H
  ihave H := (held_merge rsM c (m ((c : Thread nD τ).loc cc0_scratch4))) $$ H
  icases H with ⟨%f, H⟩
  iexists f
  rw [show (rsM : Scr).view.set = Finset.univ from View.set_whole _]
  iexact H

/-- What a device starts from, with its scratch buffers, is what the body asks for. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, H0, H1, H2, H3, H4⟩
  isplitl [Hs]; · iexact Hs
  isplitl [H0]; · iapply (xg_split (F := F) c); iexact H0
  isplitl [H4]; · iapply (rs_split (F := F) c); iexact H4
  isplitl [H1]; · iapply (owns_of_whole (F := F) c cc0_scratch1); iexact H1
  isplitl [H2]; · iapply (owns_of_whole (F := F) c cc0_scratch2); iexact H2
  iapply (owns_of_whole (F := F) c cc0_scratch3); iexact H3

/-- What the body leaves gives back the semaphores at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  rw [dones_eq]
  unfold done
  iintro ⟨⟨H0, H4, H1, H2, H3⟩, Hb, ⟨s0, r0⟩, ⟨s1, r1⟩, ⟨s2, r2⟩, ⟨s3, r3⟩, ⟨s4, r4⟩, ⟨s5, r5⟩⟩
  isplitl [Hb]; · iexact Hb
  isplitl [s0 s1 s2 s3 s4 s5 r0 r1 r2 r3 r4 r5]
  · isplitl [s0]; · iexact s0
    isplitl [s1]; · iexact s1
    isplitl [s2]; · iexact s2
    isplitl [s3]; · iexact s3
    isplitl [s4]; · iexact s4
    isplitl [s5]; · iexact s5
    isplitl [r0]; · iexact r0
    isplitl [r1]; · iexact r1
    isplitl [r2]; · iexact r2
    isplitl [r3]; · iexact r3
    isplitl [r4]; · iexact r4
    iexact r5
  isplitl [H0]; · iapply (xg_join m c); iexact H0
  isplitl [H1]; · iapply (whole_of_owns (F := F) c cc0_scratch1); iexact H1
  isplitl [H2]; · iapply (whole_of_owns (F := F) c cc0_scratch2); iexact H2
  isplitl [H3]; · iapply (whole_of_owns (F := F) c cc0_scratch3); iexact H3
  iapply (rs_join m c); iexact H4

/-- The pipeline's own waits lie below everything that is owed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, for any float values, from any memory with zero counters: every weakly fair execution of the program ends, with
    each device's arrays at the pipeline's final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input array holds what it held. -/
theorem finalA_in (c : Dev nD) (w : Fin cfg0.W) (hw : (cfg0.win w).isOut = false) : finalA m ρ c w = (s₀ m ρ).mem ((cfg0.win w).arr.view.loc (c : Thread nD τ)) :=
  (dats (F := F) m ρ 0 c).arrAt_in w hw _

end Cert.KernelIdeal.Ring

end
-- ==== Proof.KernelIdeal.Frame.lean ====
/- What the run leaves on each device, with the arrays named: the result, and the arguments as they were. -/
module

public import proofs.«01_k».proof.Proof.KernelIdeal.Launch

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The result buffer's final contents on device `c`. -/
def resOut (c : Dev nD) : Buf (Elt F) ((c.tc : Thread nD τ).loc main_v1) := finalA m ρ c (5 : Fin 6)

/-- Every weakly fair execution ends with the result at `resOut`, the arguments unchanged and every counter at zero. -/
theorem run_named : θ_run defs (onTc (τ := τ) (main (F := F))) ⟨m, fun _ => 0, ρ⟩ (fun r => (∀ c : Dev nD,
      r.2.mem ((c.tc : Thread nD τ).loc main_v1) = resOut m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨h.1 c (5 : Fin 6),
      (h.1 c (0 : Fin 6)).trans (finalA_in m ρ c (0 : Fin 6) rfl),
      (h.1 c (1 : Fin 6)).trans (finalA_in m ρ c (1 : Fin 6) rfl),
      (h.1 c (3 : Fin 6)).trans (finalA_in m ρ c (3 : Fin 6) rfl),
      (h.1 c (4 : Fin 6)).trans (finalA_in m ρ c (4 : Fin 6) rfl),
      (h.1 c (2 : Fin 6)).trans (finalA_in m ρ c (2 : Fin 6) rfl)⟩, h.2⟩) (run_main m ρ)

/-- The same with the result dropped. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_named m ρ)

end Cert.KernelIdeal.Ring

end
-- ==== Proof.Value.Windows.lean ====
/- The launch's one point covers every array: what is staged is the whole of each argument, and what the body leaves is the whole
   result. -/
module

public import proofs.«01_k».proof.Proof.KernelIdeal.Frame
public import Idealize.ShloMosaic.Lib.Pipeline.ValueKit.Geometry
public import Idealize.ShloMosaic.Lib.Pointwise

@[expose] public section

noncomputable section

namespace Cert.KernelIdeal.Ring

open Cert.KernelIdeal Cert.KernelIdeal.Gen
open Idealize.ShloMosaic Idealize.ShloMosaic.TcCoe

variable (m : (ℓ : Loc nD τ sig) → Buf (Elt Ideal) ℓ)

/-- The staged block of `x` is the argument; -/
theorem xS_eq (c : Dev nD) (r : Fin 512) (k : Fin 1024) : xS m c (ix3 0 r k) = m ((c.tc : Thread nD τ).loc main_arg0) (ix3 0 r k) := by
  refine congrArg (m ((c.tc : Thread nD τ).loc main_arg0)) (funext fun a => ?_)
  match a with
  | ⟨0, _⟩ => exact Fin.ext (by blk_simp; rw [show win0_0.index (0 : Fin 1) 0 = 0 from rfl]; rfl)
  | ⟨1, _⟩ => exact Fin.ext (by blk_simp; rw [show win0_0.index (0 : Fin 1) 1 = 0 from rfl]; omega)
  | ⟨2, _⟩ => exact Fin.ext (by blk_simp; rw [show win0_0.index (0 : Fin 1) 2 = 0 from rfl]; omega)

/-- so are the query weight, -/
theorem wqS_eq (c : Dev nD) (k t : Fin 1024) : wqS m c (ix2 k t) = m ((c.tc : Thread nD τ).loc main_arg1) (ix2 k t) := by
  refine congrArg (m ((c.tc : Thread nD τ).loc main_arg1)) (funext fun a => ?_)
  match a with
  | ⟨0, _⟩ => exact Fin.ext (by blk_simp; rw [show win0_1.index (0 : Fin 1) 0 = 0 from rfl]; omega)
  | ⟨1, _⟩ => exact Fin.ext (by blk_simp; rw [show win0_1.index (0 : Fin 1) 1 = 0 from rfl]; omega)

/-- the output weight, -/
theorem woS_eq (c : Dev nD) (k t : Fin 1024) : woS m c (ix2 k t) = m ((c.tc : Thread nD τ).loc main_arg4) (ix2 k t) := by
  refine congrArg (m ((c.tc : Thread nD τ).loc main_arg4)) (funext fun a => ?_)
  match a with
  | ⟨0, _⟩ => exact Fin.ext (by blk_simp; rw [show win0_2.index (0 : Fin 1) 0 = 0 from rfl]; omega)
  | ⟨1, _⟩ => exact Fin.ext (by blk_simp; rw [show win0_2.index (0 : Fin 1) 1 = 0 from rfl]; omega)

/-- the key weight -/
theorem wkS_eq (c : Dev nD) (k t : Fin 1024) : wkS m c (ix2 k t) = m ((c.tc : Thread nD τ).loc main_arg2) (ix2 k t) := by
  refine congrArg (m ((c.tc : Thread nD τ).loc main_arg2)) (funext fun a => ?_)
  match a with
  | ⟨0, _⟩ => exact Fin.ext (by blk_simp; rw [show win0_3.index (0 : Fin 1) 0 = 0 from rfl]; omega)
  | ⟨1, _⟩ => exact Fin.ext (by blk_simp; rw [show win0_3.index (0 : Fin 1) 1 = 0 from rfl]; omega)

/-- and the value weight. -/
theorem wvS_eq (c : Dev nD) (k t : Fin 1024) : wvS m c (ix2 k t) = m ((c.tc : Thread nD τ).loc main_arg3) (ix2 k t) := by
  refine congrArg (m ((c.tc : Thread nD τ).loc main_arg3)) (funext fun a => ?_)
  match a with
  | ⟨0, _⟩ => exact Fin.ext (by blk_simp; rw [show win0_4.index (0 : Fin 1) 0 = 0 from rfl]; omega)
  | ⟨1, _⟩ => exact Fin.ext (by blk_simp; rw [show win0_4.index (0 : Fin 1) 1 = 0 from rfl]; omega)

/-- What the result's array holds after the run is what the body left. -/
theorem arrAt_out {c : Dev nD} (D : Pipeline.Dat τ (Elt Ideal) Unit ℕ UU ℕ cfg0 c) (X : FVec Ideal S1x512x1024 .f32)
    (h : D.after (5 : Fin 6) (0 : Fin 1) = X) : D.arrAt (5 : Fin 6) cfg0.N = X := by
  refine D.arrAt_eq_of_covers (5 : Fin 6) _ (by decide +kernel) fun t hf y => ?_
  have ht : t = (0 : Fin 1) := Fin.ext (by have := t.isLt; show t.val = 0; exact Nat.lt_one_iff.mp this)
  subst ht
  rw [h]
  blk_simp
  refine congrArg X (funext fun a => ?_)
  match a with
  | ⟨0, _⟩ => exact Fin.ext (by blk_simp; rw [show win0_5.index (0 : Fin 1) 0 = 0 from rfl])
  | ⟨1, _⟩ => exact Fin.ext (by blk_simp; rw [show win0_5.index (0 : Fin 1) 1 = 0 from rfl]; omega)
  | ⟨2, _⟩ => exact Fin.ext (by blk_simp; rw [show win0_5.index (0 : Fin 1) 2 = 0 from rfl]; omega)

/-- The result after the run is what the last step computes. -/
theorem resOut_eq (ρ : Dev nD → PrngReg) (c : Dev nD) : resOut m ρ c = outAt m c :=
  arrAt_out (dats m ρ 0 c) (outAt m c) rfl

end Cert.KernelIdeal.Ring

end
-- ==== Proof.Value.Equation.lean ====
/- The equation: where each device's buffers hold its blocks of the reference's arguments, its result is its block of the
   reference's. -/
module

public import proofs.«01_k».proof.Proof.Value.Ring
public import proofs.«01_k».proof.Proof.Value.Reference
public import proofs.«01_k».proof.Proof.Value.Windows
public import Idealize.ShloMosaic.Lib.Layout

@[expose] public section

noncomputable section

namespace Cert.KernelIdeal.Ring

open Cert.KernelIdeal Cert.KernelIdeal.Gen Cert.Value
open Idealize.ShloMosaic Idealize.ShloMosaic.TcCoe

/-! ## Blocks at an index -/

/-- Row `r` of a device's block of the input is row `512 c + r`. -/
theorem block_rows (v : (⟨3, ![1, 2048, 1024]⟩ : Shape).Idx → EReal) (c : Fin 4) (r : Fin 512) (n : Fin 1024) :
    Layout.block ⟨3, ![1, 512, 1024]⟩ ⟨3, ![1, 2048, 1024]⟩ 1 4 c v (by decide) (ix3 0 r n) = v (ix3 0 (rowAt c r) n) := by
  refine congrArg v (funext fun a => ?_)
  match a with
  | ⟨0, _⟩ => rfl
  | ⟨1, _⟩ => exact Fin.ext (show c.val * 512 + r.val = 512 * c.val + r.val by omega)
  | ⟨2, _⟩ => rfl

/-- Column `t` of a device's block of a projection's weight is column `1024 c + t`. -/
theorem block_cols (v : (⟨2, ![1024, 4096]⟩ : Shape).Idx → EReal) (c : Fin 4) (k t : Fin 1024) :
    Layout.block ⟨2, ![1024, 1024]⟩ ⟨2, ![1024, 4096]⟩ 1 4 c v (by decide) (ix2 k t) = v (ix2 k ⟨c.val * 1024 + t.val, by omega⟩) := by
  refine congrArg v (funext fun a => ?_)
  match a with
  | ⟨0, _⟩ => rfl
  | ⟨1, _⟩ => rfl

/-- Row `t` of a device's block of the output weight is row `1024 c + t`. -/
theorem block_heads (v : (⟨2, ![4096, 1024]⟩ : Shape).Idx → EReal) (c : Fin 4) (t n : Fin 1024) :
    Layout.block ⟨2, ![1024, 1024]⟩ ⟨2, ![4096, 1024]⟩ 0 4 c v (by decide) (ix2 t n) = v (ix2 ⟨c.val * 1024 + t.val, by omega⟩ n) := by
  refine congrArg v (funext fun a => ?_)
  match a with
  | ⟨0, _⟩ => rfl
  | ⟨1, _⟩ => rfl

/-! ## The equation -/

variable (m : (ℓ : Loc nD τ sig) → Buf (Elt Ideal) ℓ)

/-- Where the arguments are the blocks of the reference's, the result is its block of the reference's. -/
theorem resOut_block (ρ : Dev nD → PrngReg)
    (m' : (ℓ : Loc Cert.ReferenceIdeal.nD Cert.ReferenceIdeal.τ Cert.ReferenceIdeal.sig) → Buf (Elt Ideal) ℓ)
    (h : ∀ c : Dev nD,
      m ((c.tc : Thread nD τ).loc main_arg0) = Layout.block ⟨3, ![1, 512, 1024]⟩ ⟨3, ![1, 2048, 1024]⟩ 1 4 c (m' (((0 : Dev Cert.ReferenceIdeal.nD).tc : Thread Cert.ReferenceIdeal.nD Cert.ReferenceIdeal.τ).loc Cert.ReferenceIdeal.main_arg0))
      ∧ m ((c.tc : Thread nD τ).loc main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread nD τ).loc main_arg2) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg2))
      ∧ m ((c.tc : Thread nD τ).loc main_arg3) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg3))
      ∧ m ((c.tc : Thread nD τ).loc main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4)))
    (c : Dev nD) :
    resOut m ρ c = Layout.block ⟨3, ![1, 512, 1024]⟩ ⟨3, ![1, 2048, 1024]⟩ 1 4 c (Cert.ReferenceIdeal.Value.res_main_v66 m' 0) := by
  have H : Holds m (fun i k => (m' (((0 : Dev Cert.ReferenceIdeal.nD).tc : Thread Cert.ReferenceIdeal.nD Cert.ReferenceIdeal.τ).loc Cert.ReferenceIdeal.main_arg0)) (ix3 0 i k))
      (fun k t => (m' (((0 : Dev Cert.ReferenceIdeal.nD).tc : Thread Cert.ReferenceIdeal.nD Cert.ReferenceIdeal.τ).loc Cert.ReferenceIdeal.main_arg1)) (ix2 k t))
      (fun k t => (m' (((0 : Dev Cert.ReferenceIdeal.nD).tc : Thread Cert.ReferenceIdeal.nD Cert.ReferenceIdeal.τ).loc Cert.ReferenceIdeal.main_arg2)) (ix2 k t))
      (fun k t => (m' (((0 : Dev Cert.ReferenceIdeal.nD).tc : Thread Cert.ReferenceIdeal.nD Cert.ReferenceIdeal.τ).loc Cert.ReferenceIdeal.main_arg3)) (ix2 k t))
      (fun t n => (m' (((0 : Dev Cert.ReferenceIdeal.nD).tc : Thread Cert.ReferenceIdeal.nD Cert.ReferenceIdeal.τ).loc Cert.ReferenceIdeal.main_arg4)) (ix2 t n)) := {
    x := fun c r k => (xS_eq m c r k).trans ((congrFun (h c).1 _).trans (block_rows _ c r k))
    wq := fun c k t => (wqS_eq m c k t).trans ((congrFun (h c).2.1 _).trans (block_cols _ c k t))
    wk := fun c k t => (wkS_eq m c k t).trans ((congrFun (h c).2.2.1 _).trans (block_cols _ c k t))
    wv := fun c k t => (wvS_eq m c k t).trans ((congrFun (h c).2.2.2.1 _).trans (block_cols _ c k t))
    wo := fun c t n => (woS_eq m c t n).trans ((congrFun (h c).2.2.2.2 _).trans (block_heads _ c t n)) }
  rw [resOut_eq]
  funext i
  idx_vars i
  obtain rfl : i0 = 0 := Subsingleton.elim _ _
  refine (outAt_apply H c i1 i2).trans (Eq.trans ?_ (block_rows _ c i1 i2).symm)
  rw [Cert.ReferenceIdeal.Attention.result_eq]
  exact (Cert.ReferenceIdeal.Attention.result_apply _ _ _ _ _ _ _).symm

end Cert.KernelIdeal.Ring

end
-- ==== Proof.lean ====
/- The claims, assembled: the frames of the kernel, its ideal reading and the reference, that the ideal reading is the kernel's, and
   that its result is the reference's, block by block. -/
module

public import proofs.«01_k».proof.Defs
public import proofs.«01_k».proof.Proof.Kernel.Frame
public import proofs.«01_k».proof.Proof.Value.Equation

@[expose] public section

noncomputable section

namespace Cert.Proof

open Idealize.ShloMosaic Idealize.SL.Sem

/-- The kernel ends, keeps its arguments and leaves every counter at zero. -/
theorem frame_kernel : Cert.quiescent_Kernel := fun m ρ _ => Cert.Kernel.Ring.run_frame (F := Bits) m ρ

/-- So does its ideal reading. -/
theorem frame_ideal : Cert.quiescent_KernelIdeal := fun m ρ _ => Cert.KernelIdeal.Ring.run_frame (F := Ideal) m ρ

/-- So does the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On the blocks of the reference's arguments the ideal reading ends with each device's result the block of the reference's. -/
theorem algebraic : Cert.algebraic_KernelIdeal_ReferenceIdeal := fun m ρ m' ρ' _ h =>
  ⟨Cert.ReferenceIdeal.Value.res_main_v66 m' 0,
    (θ_run Cert.KernelIdeal.defs _ _).mono
      (fun _ hr c => ⟨(hr.1 c).1.trans (Cert.KernelIdeal.Ring.resOut_block m ρ m' h c), (hr.1 c).2⟩)
      (Cert.KernelIdeal.Ring.run_named (F := Ideal) m ρ),
    (θ_run Cert.ReferenceIdeal.defs _ _).mono (fun _ hr => hr 0) (Cert.ReferenceIdeal.Value.run (F := Ideal) m' ρ')⟩

theorem claim : Cert.Claim :=
  ⟨Cert.Kernel.Gen.facts, Cert.KernelIdeal.Gen.facts, Cert.ReferenceIdeal.Gen.facts, frame_kernel, frame_ideal, frame_reference, trivial, algebraic⟩

end Cert.Proof

end
